-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 512, 512]⟩ ⟨3, ![8, 512, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x512 : Shape := ⟨3, ![1, 512, 512]⟩
abbrev S512x512 : Shape := ⟨2, ![512, 512]⟩
abbrev S512 : Shape := ⟨1, ![512]⟩
abbrev S8x64x512 : Shape := ⟨3, ![8, 64, 512]⟩
abbrev S8x2 : Shape := ⟨2, ![8, 2]⟩
abbrev S_ : Shape := ⟨0, ![]⟩
abbrev S1x1 : Shape := ⟨2, ![1, 1]⟩
abbrev S1x32x512 : Shape := ⟨3, ![1, 32, 512]⟩
abbrev S32x512 : Shape := ⟨2, ![32, 512]⟩
abbrev S32 : Shape := ⟨1, ![32]⟩
abbrev S32x1 : Shape := ⟨2, ![32, 1]⟩
abbrev S1x512 : Shape := ⟨2, ![1, 512]⟩

abbrev nBuf : Space → Nat
  | .hbm => 4
  | .vmem => 5
  | .smem => 0
  | _ => 0

abbrev bufTy : (tb : Table) → Fin (tcTables nBuf tb) → BufTy
  | .hbm, ⟨0, _⟩ => ⟨S1x512x512, .f32⟩
  | .hbm, ⟨1, _⟩ => ⟨S512x512, .f32⟩
  | .hbm, ⟨2, _⟩ => ⟨S512, .f32⟩
  | .hbm, ⟨3, _⟩ => ⟨S512x512, .f32⟩
  | .local _ .vmem, ⟨0, _⟩ => ⟨S1x512x512, .f32⟩
  | .local _ .vmem, ⟨1, _⟩ => ⟨S512x512, .f32⟩
  | .local _ .vmem, ⟨2, _⟩ => ⟨S512, .f32⟩
  | .local _ .vmem, ⟨3, _⟩ => ⟨S512x512, .f32⟩
  | .local _ .vmem, ⟨4, _⟩ => ⟨S8x64x512, .f32⟩
  | _, _ => ⟨S1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c1_i32_29 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v32 : BitVec 32 := Scalar.addi v2 c1_i32_29
  let c8_i32_30 : BitVec 32 := 8#32
  let v33 : BitVec 32 := Scalar.remsi v32 c8_i32_30
  let c0_i32_34 : BitVec 32 := 0#32
  ![v33.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_33 : BitVec 32 := 0#32
  ![v2.toNat, 0]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_37 : BitVec 32 := 0#32
  let c0_i32_38 : BitVec 32 := 0#32
  ![v2.toNat, 0, 0]
def k0_off4 (d0 : Dev nD) (c1_i32_29 : BitVec 32) (c0_i32_31 : BitVec 32) : Fin 3 → Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v32 : BitVec 32 := Scalar.addi v2 c1_i32_29
  let c8_i32_30 : BitVec 32 := 8#32
  let v33 : BitVec 32 := Scalar.remsi v32 c8_i32_30
  let c64_i32 : BitVec 32 := 64#32
  let v34 : BitVec 32 := Scalar.muli v33 c64_i32
  let v35 : BitVec 32 := Scalar.addi v34 c0_i32_31
  let c0_i32_39 : BitVec 32 := 0#32
  ![0, v35.toNat, 0]
def k0_dev8 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_29 : BitVec 32 := 1#32
  let v32 : BitVec 32 := Scalar.addi v2 c1_i32_29
  let c8_i32_30 : BitVec 32 := 8#32
  let v33 : BitVec 32 := Scalar.remsi v32 c8_i32_30
  let c1_i32_35 : BitVec 32 := 1#32
  let v36 : BitVec 32 := Scalar.muli v33 c1_i32_35
  let v37 : BitVec 32 := Scalar.addi c0_i32_36 v36
  v37.toNat
def k0_dev9 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_40 : BitVec 32 := 2#32
  let v46 : BitVec 32 := Scalar.addi v2 c2_i32_40
  let c8_i32_41 : BitVec 32 := 8#32
  let v47 : BitVec 32 := Scalar.remsi v46 c8_i32_41
  let c1_i32_47 : BitVec 32 := 1#32
  let v50 : BitVec 32 := Scalar.muli v47 c1_i32_47
  let v51 : BitVec 32 := Scalar.addi c0_i32_48 v50
  v51.toNat
def k0_dev10 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_52 : BitVec 32 := 3#32
  let v60 : BitVec 32 := Scalar.addi v2 c3_i32_52
  let c8_i32_53 : BitVec 32 := 8#32
  let v61 : BitVec 32 := Scalar.remsi v60 c8_i32_53
  let c1_i32_59 : BitVec 32 := 1#32
  let v64 : BitVec 32 := Scalar.muli v61 c1_i32_59
  let v65 : BitVec 32 := Scalar.addi c0_i32_60 v64
  v65.toNat
def k0_dev11 (d0 : Dev nD) : Nat :=
  let c0_i32_72 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_64 : BitVec 32 := 4#32
  let v74 : BitVec 32 := Scalar.addi v2 c4_i32_64
  let c8_i32_65 : BitVec 32 := 8#32
  let v75 : BitVec 32 := Scalar.remsi v74 c8_i32_65
  let c1_i32_71 : BitVec 32 := 1#32
  let v78 : BitVec 32 := Scalar.muli v75 c1_i32_71
  let v79 : BitVec 32 := Scalar.addi c0_i32_72 v78
  v79.toNat
def k0_dev12 (d0 : Dev nD) : Nat :=
  let c0_i32_84 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_76 : BitVec 32 := 5#32
  let v88 : BitVec 32 := Scalar.addi v2 c5_i32_76
  let c8_i32_77 : BitVec 32 := 8#32
  let v89 : BitVec 32 := Scalar.remsi v88 c8_i32_77
  let c1_i32_83 : BitVec 32 := 1#32
  let v92 : BitVec 32 := Scalar.muli v89 c1_i32_83
  let v93 : BitVec 32 := Scalar.addi c0_i32_84 v92
  v93.toNat
def k0_dev13 (d0 : Dev nD) : Nat :=
  let c0_i32_96 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_88 : BitVec 32 := 6#32
  let v102 : BitVec 32 := Scalar.addi v2 c6_i32_88
  let c8_i32_89 : BitVec 32 := 8#32
  let v103 : BitVec 32 := Scalar.remsi v102 c8_i32_89
  let c1_i32_95 : BitVec 32 := 1#32
  let v106 : BitVec 32 := Scalar.muli v103 c1_i32_95
  let v107 : BitVec 32 := Scalar.addi c0_i32_96 v106
  v107.toNat
def k0_dev14 (d0 : Dev nD) : Nat :=
  let c0_i32_108 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_100 : BitVec 32 := 7#32
  let v116 : BitVec 32 := Scalar.addi v2 c7_i32_100
  let c8_i32_101 : BitVec 32 := 8#32
  let v117 : BitVec 32 := Scalar.remsi v116 c8_i32_101
  let c1_i32_107 : BitVec 32 := 1#32
  let v120 : BitVec 32 := Scalar.muli v117 c1_i32_107
  let v121 : BitVec 32 := Scalar.addi c0_i32_108 v120
  v121.toNat
def k0_off5 (d0 : Dev nD) (c1_i32_112 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v130 : BitVec 32 := Scalar.addi v2 c1_i32_112
  let c8_i32_113 : BitVec 32 := 8#32
  let v131 : BitVec 32 := Scalar.remsi v130 c8_i32_113
  let c1_i32_117 : BitVec 32 := 1#32
  ![v131.toNat, 1]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_116 : BitVec 32 := 1#32
  ![v2.toNat, 1]
def k0_off7 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_120 : BitVec 32 := 32#32
  let c0_i32_121 : BitVec 32 := 0#32
  ![v2.toNat, 32, 0]
def k0_dev15 (d0 : Dev nD) : Nat :=
  let c0_i32_119 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_112 : BitVec 32 := 1#32
  let v130 : BitVec 32 := Scalar.addi v2 c1_i32_112
  let c8_i32_113 : BitVec 32 := 8#32
  let v131 : BitVec 32 := Scalar.remsi v130 c8_i32_113
  let c1_i32_118 : BitVec 32 := 1#32
  let v134 : BitVec 32 := Scalar.muli v131 c1_i32_118
  let v135 : BitVec 32 := Scalar.addi c0_i32_119 v134
  v135.toNat
def k0_dev16 (d0 : Dev nD) : Nat :=
  let c0_i32_131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_123 : BitVec 32 := 2#32
  let v144 : BitVec 32 := Scalar.addi v2 c2_i32_123
  let c8_i32_124 : BitVec 32 := 8#32
  let v145 : BitVec 32 := Scalar.remsi v144 c8_i32_124
  let c1_i32_130 : BitVec 32 := 1#32
  let v148 : BitVec 32 := Scalar.muli v145 c1_i32_130
  let v149 : BitVec 32 := Scalar.addi c0_i32_131 v148
  v149.toNat
def k0_dev17 (d0 : Dev nD) : Nat :=
  let c0_i32_143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_135 : BitVec 32 := 3#32
  let v158 : BitVec 32 := Scalar.addi v2 c3_i32_135
  let c8_i32_136 : BitVec 32 := 8#32
  let v159 : BitVec 32 := Scalar.remsi v158 c8_i32_136
  let c1_i32_142 : BitVec 32 := 1#32
  let v162 : BitVec 32 := Scalar.muli v159 c1_i32_142
  let v163 : BitVec 32 := Scalar.addi c0_i32_143 v162
  v163.toNat
def k0_dev18 (d0 : Dev nD) : Nat :=
  let c0_i32_155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_147 : BitVec 32 := 4#32
  let v172 : BitVec 32 := Scalar.addi v2 c4_i32_147
  let c8_i32_148 : BitVec 32 := 8#32
  let v173 : BitVec 32 := Scalar.remsi v172 c8_i32_148
  let c1_i32_154 : BitVec 32 := 1#32
  let v176 : BitVec 32 := Scalar.muli v173 c1_i32_154
  let v177 : BitVec 32 := Scalar.addi c0_i32_155 v176
  v177.toNat
def k0_dev19 (d0 : Dev nD) : Nat :=
  let c0_i32_167 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_159 : BitVec 32 := 5#32
  let v186 : BitVec 32 := Scalar.addi v2 c5_i32_159
  let c8_i32_160 : BitVec 32 := 8#32
  let v187 : BitVec 32 := Scalar.remsi v186 c8_i32_160
  let c1_i32_166 : BitVec 32 := 1#32
  let v190 : BitVec 32 := Scalar.muli v187 c1_i32_166
  let v191 : BitVec 32 := Scalar.addi c0_i32_167 v190
  v191.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_171 : BitVec 32 := 6#32
  let v200 : BitVec 32 := Scalar.addi v2 c6_i32_171
  let c8_i32_172 : BitVec 32 := 8#32
  let v201 : BitVec 32 := Scalar.remsi v200 c8_i32_172
  let c1_i32_178 : BitVec 32 := 1#32
  let v204 : BitVec 32 := Scalar.muli v201 c1_i32_178
  let v205 : BitVec 32 := Scalar.addi c0_i32_179 v204
  v205.toNat
def k0_dev21 (d0 : Dev nD) : Nat :=
  let c0_i32_191 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_183 : BitVec 32 := 7#32
  let v214 : BitVec 32 := Scalar.addi v2 c7_i32_183
  let c8_i32_184 : BitVec 32 := 8#32
  let v215 : BitVec 32 := Scalar.remsi v214 c8_i32_184
  let c1_i32_190 : BitVec 32 := 1#32
  let v218 : BitVec 32 := Scalar.muli v215 c1_i32_190
  let v219 : BitVec 32 := Scalar.addi c0_i32_191 v218
  v219.toNat
def k0_off8 (d0 : Dev nD) (c0_i32_196 : BitVec 32) : Fin 3 → Nat :=
  let c0 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_195 : BitVec 32 := 64#32
  let v228 : BitVec 32 := Scalar.muli v2 c64_i32_195
  let v229 : BitVec 32 := Scalar.addi v228 c0_i32_196
  let v230 : Index := Scalar.indexCast v229
  let c0_197 : Index := 0#32
  ![0, v230.toNat, 0]
def k0_off9 (d0 : Dev nD) (c0_i32_196 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_195 : BitVec 32 := 64#32
  let v228 : BitVec 32 := Scalar.muli v2 c64_i32_195
  let v229 : BitVec 32 := Scalar.addi v228 c0_i32_196
  let v233 : Index := Scalar.indexCast v229
  let c0_198 : Index := 0#32
  ![v233.toNat, 0]
def k0_off10 (d0 : Dev nD) (c1_i32_199 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v237 : BitVec 32 := Scalar.addi v2 c1_i32_199
  let c8_i32_200 : BitVec 32 := 8#32
  let v238 : BitVec 32 := Scalar.remsi v237 c8_i32_200
  let c0_i32_205 : BitVec 32 := 0#32
  let c0_i32_206 : BitVec 32 := 0#32
  ![v238.toNat, 0, 0]
def k0_off11 (d0 : Dev nD) (c1_i32_199 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v237 : BitVec 32 := Scalar.addi v2 c1_i32_199
  let c8_i32_200 : BitVec 32 := 8#32
  let v238 : BitVec 32 := Scalar.remsi v237 c8_i32_200
  let v247 : Index := Scalar.indexCast v238
  let c0_209 : Index := 0#32
  let c0_210 : Index := 0#32
  ![v247.toNat, 0, 0]
def k0_off12 (d0 : Dev nD) (c0_i32_196 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_195 : BitVec 32 := 64#32
  let v228 : BitVec 32 := Scalar.muli v2 c64_i32_195
  let v229 : BitVec 32 := Scalar.addi v228 c0_i32_196
  let c0_i32_293 : BitVec 32 := 0#32
  ![v229.toNat, 0]
def k0_dev22 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_287 : BitVec 32 := 1#32
  let v352 : BitVec 32 := Scalar.addi v2 c1_i32_287
  let c8_i32_288 : BitVec 32 := 8#32
  let v353 : BitVec 32 := Scalar.remsi v352 c8_i32_288
  let c1_i32_291 : BitVec 32 := 1#32
  let v354 : BitVec 32 := Scalar.muli v353 c1_i32_291
  let v355 : BitVec 32 := Scalar.addi c0_i32_292 v354
  v355.toNat
def k0_dev23 (d0 : Dev nD) : Nat :=
  let c0_i32_300 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_295 : BitVec 32 := 2#32
  let v362 : BitVec 32 := Scalar.addi v2 c2_i32_295
  let c8_i32_296 : BitVec 32 := 8#32
  let v363 : BitVec 32 := Scalar.remsi v362 c8_i32_296
  let c1_i32_299 : BitVec 32 := 1#32
  let v364 : BitVec 32 := Scalar.muli v363 c1_i32_299
  let v365 : BitVec 32 := Scalar.addi c0_i32_300 v364
  v365.toNat
def k0_dev24 (d0 : Dev nD) : Nat :=
  let c0_i32_308 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_303 : BitVec 32 := 3#32
  let v372 : BitVec 32 := Scalar.addi v2 c3_i32_303
  let c8_i32_304 : BitVec 32 := 8#32
  let v373 : BitVec 32 := Scalar.remsi v372 c8_i32_304
  let c1_i32_307 : BitVec 32 := 1#32
  let v374 : BitVec 32 := Scalar.muli v373 c1_i32_307
  let v375 : BitVec 32 := Scalar.addi c0_i32_308 v374
  v375.toNat
def k0_dev25 (d0 : Dev nD) : Nat :=
  let c0_i32_316 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_311 : BitVec 32 := 4#32
  let v382 : BitVec 32 := Scalar.addi v2 c4_i32_311
  let c8_i32_312 : BitVec 32 := 8#32
  let v383 : BitVec 32 := Scalar.remsi v382 c8_i32_312
  let c1_i32_315 : BitVec 32 := 1#32
  let v384 : BitVec 32 := Scalar.muli v383 c1_i32_315
  let v385 : BitVec 32 := Scalar.addi c0_i32_316 v384
  v385.toNat
def k0_dev26 (d0 : Dev nD) : Nat :=
  let c0_i32_324 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_319 : BitVec 32 := 5#32
  let v392 : BitVec 32 := Scalar.addi v2 c5_i32_319
  let c8_i32_320 : BitVec 32 := 8#32
  let v393 : BitVec 32 := Scalar.remsi v392 c8_i32_320
  let c1_i32_323 : BitVec 32 := 1#32
  let v394 : BitVec 32 := Scalar.muli v393 c1_i32_323
  let v395 : BitVec 32 := Scalar.addi c0_i32_324 v394
  v395.toNat
def k0_dev27 (d0 : Dev nD) : Nat :=
  let c0_i32_332 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_327 : BitVec 32 := 6#32
  let v402 : BitVec 32 := Scalar.addi v2 c6_i32_327
  let c8_i32_328 : BitVec 32 := 8#32
  let v403 : BitVec 32 := Scalar.remsi v402 c8_i32_328
  let c1_i32_331 : BitVec 32 := 1#32
  let v404 : BitVec 32 := Scalar.muli v403 c1_i32_331
  let v405 : BitVec 32 := Scalar.addi c0_i32_332 v404
  v405.toNat
def k0_dev28 (d0 : Dev nD) : Nat :=
  let c0_i32_340 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_335 : BitVec 32 := 7#32
  let v412 : BitVec 32 := Scalar.addi v2 c7_i32_335
  let c8_i32_336 : BitVec 32 := 8#32
  let v413 : BitVec 32 := Scalar.remsi v412 c8_i32_336
  let c1_i32_339 : BitVec 32 := 1#32
  let v414 : BitVec 32 := Scalar.muli v413 c1_i32_339
  let v415 : BitVec 32 := Scalar.addi c0_i32_340 v414
  v415.toNat
def k0_off13 (d0 : Dev nD) (c1_i32_348 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v431 : BitVec 32 := Scalar.addi v2 c1_i32_348
  let c8_i32_349 : BitVec 32 := 8#32
  let v432 : BitVec 32 := Scalar.remsi v431 c8_i32_349
  let c32_i32_354 : BitVec 32 := 32#32
  let c0_i32_355 : BitVec 32 := 0#32
  ![v432.toNat, 32, 0]
def k0_off14 (d0 : Dev nD) (c1_i32_348 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v431 : BitVec 32 := Scalar.addi v2 c1_i32_348
  let c8_i32_349 : BitVec 32 := 8#32
  let v432 : BitVec 32 := Scalar.remsi v431 c8_i32_349
  let v441 : Index := Scalar.indexCast v432
  let c32 : Index := 32#32
  let c0_358 : Index := 0#32
  ![v441.toNat, 32, 0]
def k0_dev29 (d0 : Dev nD) : Nat :=
  let c0_i32_441 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_436 : BitVec 32 := 1#32
  let v546 : BitVec 32 := Scalar.addi v2 c1_i32_436
  let c8_i32_437 : BitVec 32 := 8#32
  let v547 : BitVec 32 := Scalar.remsi v546 c8_i32_437
  let c1_i32_440 : BitVec 32 := 1#32
  let v548 : BitVec 32 := Scalar.muli v547 c1_i32_440
  let v549 : BitVec 32 := Scalar.addi c0_i32_441 v548
  v549.toNat
def k0_dev30 (d0 : Dev nD) : Nat :=
  let c0_i32_449 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_444 : BitVec 32 := 2#32
  let v556 : BitVec 32 := Scalar.addi v2 c2_i32_444
  let c8_i32_445 : BitVec 32 := 8#32
  let v557 : BitVec 32 := Scalar.remsi v556 c8_i32_445
  let c1_i32_448 : BitVec 32 := 1#32
  let v558 : BitVec 32 := Scalar.muli v557 c1_i32_448
  let v559 : BitVec 32 := Scalar.addi c0_i32_449 v558
  v559.toNat
def k0_dev31 (d0 : Dev nD) : Nat :=
  let c0_i32_457 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_452 : BitVec 32 := 3#32
  let v566 : BitVec 32 := Scalar.addi v2 c3_i32_452
  let c8_i32_453 : BitVec 32 := 8#32
  let v567 : BitVec 32 := Scalar.remsi v566 c8_i32_453
  let c1_i32_456 : BitVec 32 := 1#32
  let v568 : BitVec 32 := Scalar.muli v567 c1_i32_456
  let v569 : BitVec 32 := Scalar.addi c0_i32_457 v568
  v569.toNat
def k0_dev32 (d0 : Dev nD) : Nat :=
  let c0_i32_465 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_460 : BitVec 32 := 4#32
  let v576 : BitVec 32 := Scalar.addi v2 c4_i32_460
  let c8_i32_461 : BitVec 32 := 8#32
  let v577 : BitVec 32 := Scalar.remsi v576 c8_i32_461
  let c1_i32_464 : BitVec 32 := 1#32
  let v578 : BitVec 32 := Scalar.muli v577 c1_i32_464
  let v579 : BitVec 32 := Scalar.addi c0_i32_465 v578
  v579.toNat
def k0_dev33 (d0 : Dev nD) : Nat :=
  let c0_i32_473 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_468 : BitVec 32 := 5#32
  let v586 : BitVec 32 := Scalar.addi v2 c5_i32_468
  let c8_i32_469 : BitVec 32 := 8#32
  let v587 : BitVec 32 := Scalar.remsi v586 c8_i32_469
  let c1_i32_472 : BitVec 32 := 1#32
  let v588 : BitVec 32 := Scalar.muli v587 c1_i32_472
  let v589 : BitVec 32 := Scalar.addi c0_i32_473 v588
  v589.toNat
def k0_dev34 (d0 : Dev nD) : Nat :=
  let c0_i32_481 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_476 : BitVec 32 := 6#32
  let v596 : BitVec 32 := Scalar.addi v2 c6_i32_476
  let c8_i32_477 : BitVec 32 := 8#32
  let v597 : BitVec 32 := Scalar.remsi v596 c8_i32_477
  let c1_i32_480 : BitVec 32 := 1#32
  let v598 : BitVec 32 := Scalar.muli v597 c1_i32_480
  let v599 : BitVec 32 := Scalar.addi c0_i32_481 v598
  v599.toNat
def k0_dev35 (d0 : Dev nD) : Nat :=
  let c0_i32_489 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_484 : BitVec 32 := 7#32
  let v606 : BitVec 32 := Scalar.addi v2 c7_i32_484
  let c8_i32_485 : BitVec 32 := 8#32
  let v607 : BitVec 32 := Scalar.remsi v606 c8_i32_485
  let c1_i32_488 : BitVec 32 := 1#32
  let v608 : BitVec 32 := Scalar.muli v607 c1_i32_488
  let v609 : BitVec 32 := Scalar.addi c0_i32_489 v608
  v609.toNat
def k0_off15 (d0 : Dev nD) (c1_i32_492 : BitVec 32) (c0_i32_497 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v616 : BitVec 32 := Scalar.addi v2 c1_i32_492
  let c8_i32_493 : BitVec 32 := 8#32
  let v617 : BitVec 32 := Scalar.remsi v616 c8_i32_493
  let c64_i32_496 : BitVec 32 := 64#32
  let v620 : BitVec 32 := Scalar.muli v617 c64_i32_496
  let v621 : BitVec 32 := Scalar.addi v620 c0_i32_497
  let c0_i32_502 : BitVec 32 := 0#32
  ![v621.toNat, 0]
abbrev stage0_0 : Fin 1 → Memref sig .tc .vmem S1x512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S8x512x512 : Shape := ⟨3, ![8, 512, 512]⟩
abbrev S512x512 : Shape := ⟨2, ![512, 512]⟩
abbrev S512 : Shape := ⟨1, ![512]⟩
abbrev S_ : Shape := ⟨0, ![]⟩
abbrev S512x1 : Shape := ⟨2, ![512, 1]⟩
abbrev S1x512 : Shape := ⟨2, ![1, 512]⟩

abbrev nBuf : Space → Nat
  | .hbm => 22
  | .vmem => 0
  | .smem => 0
  | _ => 0

abbrev bufTy : (tb : Table) → Fin (tcTables nBuf tb) → BufTy
  | .hbm, ⟨0, _⟩ => ⟨S8x512x512, .f32⟩
  | .hbm, ⟨1, _⟩ => ⟨S512x512, .f32⟩
  | .hbm, ⟨2, _⟩ => ⟨S512, .f32⟩
  | .hbm, ⟨3, _⟩ => ⟨S_, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S512x1, .f32⟩
  | .hbm, ⟨17, _⟩ => ⟨S512x512, .f32⟩
  | .hbm, ⟨18, _⟩ => ⟨S512x512, .f32⟩
  | .hbm, ⟨19, _⟩ => ⟨S1x512, .f32⟩
  | .hbm, ⟨20, _⟩ => ⟨S512x512, .f32⟩
  | .hbm, ⟨21, _⟩ => ⟨S512x512, .f32⟩
  | _, _ => ⟨S8x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Pieces.lean ====
/-
The pieces the kernel moves. Each of the three buffers the transfers touch — the partial products' staging buffer, the
landing buffer and the result's staging buffer — is cut into sixteen pieces of 32 rows, one per device `j` and half `s`;
a transfer moves one piece. This module names the pieces as memory references, says which elements each holds, that the
sixteen pieces partition their buffer, and which semaphore of each array a transfer uses.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen
open Idealize.ShloMosaic Idealize.ShloMosaic.TcCoe

/-! ## The other devices -/

set_option backward.proofsInPublic true in
/-- The device `o + 1` places after `c`, cyclically: the `o`-th of the seven others. -/
def peer (c : Dev nD) (o : Fin 7) : Dev nD := ⟨(c.val + o.val + 1) % 8, Nat.mod_lt _ (by decide)⟩

set_option backward.proofsInPublic true in
/-- The place of device `p` among the seven others as `c` counts them. -/
def place (c p : Dev nD) : Fin 7 := ⟨(p.val + 7 - c.val) % 8 % 7, Nat.mod_lt _ (by decide)⟩

theorem peer_ne (c : Dev nD) (o : Fin 7) : peer c o ≠ c := by revert c o; decide
theorem place_peer (c : Dev nD) (o : Fin 7) : place c (peer c o) = o := by revert c o; decide
theorem peer_place (c p : Dev nD) (h : p ≠ c) : peer c (place c p) = p := by revert c p; decide
theorem peer_injective (c : Dev nD) : Function.Injective (peer c) := fun o o' h => by
  have := congrArg (place c) h; rwa [place_peer, place_peer] at this

/-! ## The pieces as memory references -/

theorem p_inb (j : Dev nD) (s : Fin 2) (a : Fin 3) :
    (![0, 64 * j.val + 32 * s.val, 0] : Fin 3 → Nat) a + S1x32x512.size a ≤ S1x512x512.size a := by revert j s a; decide
theorem r_inb (j : Dev nD) (s : Fin 2) (a : Fin 3) :
    (![j.val, 32 * s.val, 0] : Fin 3 → Nat) a + S1x32x512.size a ≤ S8x64x512.size a := by revert j s a; decide
theorem o_inb (j : Dev nD) (s : Fin 2) (a : Fin 2) :
    (![64 * j.val + 32 * s.val, 0] : Fin 2 → Nat) a + S32x512.size a ≤ S512x512.size a := by revert j s a; decide

/-- The rectangle of the partial products' rows that belong to device `j`'s half `s`, -/
abbrev pRect (j : Dev nD) (s : Fin 2) : Rect S1x512x512 := Rect.unit (s := S1x512x512) ![0, 64 * j.val + 32 * s.val, 0] S1x32x512.size (p_inb j s)
/-- the rectangle of the landing buffer where device `j`'s half `s` lands, -/
abbrev rRect (j : Dev nD) (s : Fin 2) : Rect S8x64x512 := Rect.unit (s := S8x64x512) ![j.val, 32 * s.val, 0] S1x32x512.size (r_inb j s)
/-- and the rectangle of the result's rows that device `j` computes as its half `s`. -/
abbrev oRect (j : Dev nD) (s : Fin 2) : Rect S512x512 := Rect.unit (s := S512x512) ![64 * j.val + 32 * s.val, 0] S32x512.size (o_inb j s)

abbrev pBuf : Memref sig .tc .vmem S1x512x512 .f32 := Memref.whole cc0_stg0_0
abbrev rBuf : Memref sig .tc .vmem S8x64x512 .f32 := Memref.whole cc0_scratch0
abbrev oBuf : Memref sig .tc .vmem S512x512 .f32 := Memref.whole cc0_stg3_0

abbrev pMem (j : Dev nD) (s : Fin 2) : Memref sig .tc .vmem S32x512 .f32 :=
  (pBuf.slice (pRect j s) (fun _ => rfl)).squeeze S32x512 squeezes_S1x32x512_S32x512
abbrev rMem (j : Dev nD) (s : Fin 2) : Memref sig .tc .vmem S32x512 .f32 :=
  (rBuf.slice (rRect j s) (fun _ => rfl)).squeeze S32x512 squeezes_S1x32x512_S32x512
abbrev oMem (j : Dev nD) (s : Fin 2) : Memref sig .tc .vmem S32x512 .f32 := oBuf.slice (oRect j s) (fun _ => rfl)

/-- What one piece's transfer credits a semaphore. -/
abbrev N : ℕ := (rMem 0 0).view.dmaCredit
theorem N_pos : 0 < N := View.dmaCredit_pos _ (by decide)

theorem credit_p (j : Dev nD) (s : Fin 2) : (pMem j s).view.dmaCredit = N := rfl
theorem credit_r (j : Dev nD) (s : Fin 2) : (rMem j s).view.dmaCredit = N := rfl
theorem credit_o (j : Dev nD) (s : Fin 2) : (oMem j s).view.dmaCredit = N := rfl

/-! ## Their elements -/

abbrev pSet (j : Dev nD) (s : Fin 2) : Finset S1x512x512.Idx := (pMem j s).view.set
abbrev rSet (j : Dev nD) (s : Fin 2) : Finset S8x64x512.Idx := (rMem j s).view.set
abbrev oSet (j : Dev nD) (s : Fin 2) : Finset S512x512.Idx := (oMem j s).view.set

theorem pSet_eq (j : Dev nD) (s : Fin 2) : pSet j s = (pRect j s).set := by
  exact (View.set_reshape _ _).trans (View.set_slice_whole _ _)
theorem rSet_eq (j : Dev nD) (s : Fin 2) : rSet j s = (rRect j s).set := by
  exact (View.set_reshape _ _).trans (View.set_slice_whole _ _)
theorem oSet_eq (j : Dev nD) (s : Fin 2) : oSet j s = (oRect j s).set := by
  exact View.set_slice_whole _ _

theorem mem_pSet (j : Dev nD) (s : Fin 2) (i : S1x512x512.Idx) :
    i ∈ pSet j s ↔ 64 * j.val + 32 * s.val ≤ (i 1).val ∧ (i 1).val < 64 * j.val + 32 * s.val + 32 := by
  rw [pSet_eq, Rect.mem_set_unit]
  have h0 : (i 0).val < 1 := (i 0).isLt
  have h2 : (i 2).val < 512 := (i 2).isLt
  constructor
  · intro h; exact h 1
  · intro h a
    fin_cases a
    · exact ⟨Nat.zero_le _, by show (i 0).val < 0 + 1; omega⟩
    · exact h
    · exact ⟨Nat.zero_le _, by show (i 2).val < 0 + 512; omega⟩

theorem mem_rSet (j : Dev nD) (s : Fin 2) (i : S8x64x512.Idx) :
    i ∈ rSet j s ↔ (i 0).val = j.val ∧ 32 * s.val ≤ (i 1).val ∧ (i 1).val < 32 * s.val + 32 := by
  rw [rSet_eq, Rect.mem_set_unit]
  have h2 : (i 2).val < 512 := (i 2).isLt
  constructor
  · intro h
    have h0 : j.val ≤ (i 0).val ∧ (i 0).val < j.val + 1 := h 0
    exact ⟨by omega, h 1⟩
  · rintro ⟨h0, h1⟩ a
    fin_cases a
    · exact ⟨by show j.val ≤ (i 0).val; omega, by show (i 0).val < j.val + 1; omega⟩
    · exact h1
    · exact ⟨Nat.zero_le _, by show (i 2).val < 0 + 512; omega⟩

theorem mem_oSet (j : Dev nD) (s : Fin 2) (i : S512x512.Idx) :
    i ∈ oSet j s ↔ 64 * j.val + 32 * s.val ≤ (i 0).val ∧ (i 0).val < 64 * j.val + 32 * s.val + 32 := by
  rw [oSet_eq, Rect.mem_set_unit]
  have h1 : (i 1).val < 512 := (i 1).isLt
  constructor
  · intro h; exact h 0
  · intro h a
    fin_cases a
    · exact h
    · exact ⟨Nat.zero_le _, by show (i 1).val < 0 + 512; omega⟩

/-! ### The sixteen pieces of each buffer partition it -/

theorem pSet_disj (b b' : Dev nD × Fin 2) (h : b ≠ b') : Disjoint (pSet b.1 b.2) (pSet b'.1 b'.2) := by
  rw [Finset.disjoint_left]; intro i hi hi'
  rw [mem_pSet] at hi hi'
  have := b.2.isLt; have := b'.2.isLt
  exact h (Prod.ext (Fin.ext (by omega)) (Fin.ext (by omega)))
theorem rSet_disj (b b' : Dev nD × Fin 2) (h : b ≠ b') : Disjoint (rSet b.1 b.2) (rSet b'.1 b'.2) := by
  rw [Finset.disjoint_left]; intro i hi hi'
  rw [mem_rSet] at hi hi'
  have := b.2.isLt; have := b'.2.isLt
  exact h (Prod.ext (Fin.ext (by omega)) (Fin.ext (by omega)))
theorem oSet_disj (b b' : Dev nD × Fin 2) (h : b ≠ b') : Disjoint (oSet b.1 b.2) (oSet b'.1 b'.2) := by
  rw [Finset.disjoint_left]; intro i hi hi'
  rw [mem_oSet] at hi hi'
  have := b.2.isLt; have := b'.2.isLt
  exact h (Prod.ext (Fin.ext (by omega)) (Fin.ext (by omega)))

theorem pSet_cover : (Finset.univ.biUnion fun b : Dev nD × Fin 2 => pSet b.1 b.2) = Finset.univ := by
  refine Finset.eq_univ_iff_forall.2 fun i => Finset.mem_biUnion.2 ?_
  have h1 : (i 1).val < 512 := (i 1).isLt
  refine ⟨(⟨(i 1).val / 64, by show _ < 8; omega⟩, ⟨(i 1).val % 64 / 32, by omega⟩), Finset.mem_univ _, (mem_pSet _ _ i).2 ⟨?_, ?_⟩⟩ <;> dsimp only <;> omega
theorem rSet_cover : (Finset.univ.biUnion fun b : Dev nD × Fin 2 => rSet b.1 b.2) = Finset.univ := by
  refine Finset.eq_univ_iff_forall.2 fun i => Finset.mem_biUnion.2 ?_
  have h1 : (i 1).val < 64 := (i 1).isLt
  refine ⟨(⟨(i 0).val, (i 0).isLt⟩, ⟨(i 1).val / 32, by omega⟩), Finset.mem_univ _, (mem_rSet _ _ i).2 ⟨rfl, ?_, ?_⟩⟩ <;> dsimp only <;> omega
theorem oSet_cover : (Finset.univ.biUnion fun b : Dev nD × Fin 2 => oSet b.1 b.2) = Finset.univ := by
  refine Finset.eq_univ_iff_forall.2 fun i => Finset.mem_biUnion.2 ?_
  have h1 : (i 0).val < 512 := (i 0).isLt
  refine ⟨(⟨(i 0).val / 64, by show _ < 8; omega⟩, ⟨(i 0).val % 64 / 32, by omega⟩), Finset.mem_univ _, (mem_oSet _ _ i).2 ⟨?_, ?_⟩⟩ <;> dsimp only <;> omega

/-! ### Coordinates of a piece's elements -/

/-- An element of a piece, as the transfers index it, is at the same place within its 32 rows in the staging buffer of
    the partial products and in the landing buffer. -/
def inner (y : S32x512.Idx) : S1x32x512.Idx := Shape.reshapeEquiv squeezes_S1x32x512_S32x512.numel_eq y

theorem p_emb (j : Dev nD) (s : Fin 2) (y : S32x512.Idx) : (pMem j s).view.emb y = (pRect j s).emb (inner y) := rfl
theorem r_emb (j : Dev nD) (s : Fin 2) (y : S32x512.Idx) : (rMem j s).view.emb y = (rRect j s).emb (inner y) := rfl
theorem o_emb (j : Dev nD) (s : Fin 2) (y : S32x512.Idx) : (oMem j s).view.emb y = (oRect j s).emb y := rfl

theorem pRect_emb_0 (j : Dev nD) (s : Fin 2) (x : S1x32x512.Idx) : ((pRect j s).emb x 0).val = 0 := by
  have := ((pRect j s).emb x 0).isLt; have h : S1x512x512.size 0 = 1 := rfl; omega
theorem pRect_emb_1 (j : Dev nD) (s : Fin 2) (x : S1x32x512.Idx) : ((pRect j s).emb x 1).val = 64 * j.val + 32 * s.val + (x 1).val := by
  rw [Rect.emb_apply]; show 64 * j.val + 32 * s.val + 1 * (x 1).val = _; omega
theorem pRect_emb_2 (j : Dev nD) (s : Fin 2) (x : S1x32x512.Idx) : ((pRect j s).emb x 2).val = (x 2).val := by
  rw [Rect.emb_apply]; show 0 + 1 * (x 2).val = _; omega
theorem rRect_emb_0 (j : Dev nD) (s : Fin 2) (x : S1x32x512.Idx) : ((rRect j s).emb x 0).val = j.val := by
  rw [Rect.emb_apply]; have h : (x 0).val < 1 := (x 0).isLt; show j.val + 1 * (x 0).val = _; omega
theorem rRect_emb_1 (j : Dev nD) (s : Fin 2) (x : S1x32x512.Idx) : ((rRect j s).emb x 1).val = 32 * s.val + (x 1).val := by
  rw [Rect.emb_apply]; show 32 * s.val + 1 * (x 1).val = _; omega
theorem rRect_emb_2 (j : Dev nD) (s : Fin 2) (x : S1x32x512.Idx) : ((rRect j s).emb x 2).val = (x 2).val := by
  rw [Rect.emb_apply]; show 0 + 1 * (x 2).val = _; omega
theorem oRect_emb_0 (j : Dev nD) (s : Fin 2) (y : S32x512.Idx) : ((oRect j s).emb y 0).val = 64 * j.val + 32 * s.val + (y 0).val := by
  rw [Rect.emb_apply]; show 64 * j.val + 32 * s.val + 1 * (y 0).val = _; omega
theorem oRect_emb_1 (j : Dev nD) (s : Fin 2) (y : S32x512.Idx) : ((oRect j s).emb y 1).val = (y 1).val := by
  rw [Rect.emb_apply]; show 0 + 1 * (y 1).val = _; omega

/-! ## The semaphores -/

set_option backward.proofsInPublic true in
/-- The DMA semaphore of array `k` (0 the first phase's send array, 1 its receive array, 2 and 3 the second phase's) for
    device `j` and half `s`. -/
def semK (k : Fin 4) (j : Dev nD) (s : Fin 2) : DmaSem sig :=
  ⟨4 + 16 * k.val + 2 * j.val + s.val, by have := k.isLt; have := j.isLt; have := s.isLt; show _ < 68; have : nD = 8 := rfl; omega⟩

set_option backward.proofsInPublic true in
def arrOf (q : DmaSem sig) : Fin 4 := ⟨(q.val - 4) / 16 % 4, Nat.mod_lt _ (by decide)⟩
set_option backward.proofsInPublic true in
def devOf (q : DmaSem sig) : Dev nD := ⟨(q.val - 4) / 2 % 8, Nat.mod_lt _ (by decide)⟩
set_option backward.proofsInPublic true in
def halfOf (q : DmaSem sig) : Fin 2 := ⟨(q.val - 4) % 2, Nat.mod_lt _ (by decide)⟩

theorem semK_val (k : Fin 4) (j : Dev nD) (s : Fin 2) : (semK k j s).val = 4 + 16 * k.val + 2 * j.val + s.val := rfl
theorem semK_ge (k : Fin 4) (j : Dev nD) (s : Fin 2) : 4 ≤ (semK k j s).val := by rw [semK_val]; omega
theorem arrOf_semK (k : Fin 4) (j : Dev nD) (s : Fin 2) : arrOf (semK k j s) = k :=
  Fin.ext (by have := k.isLt; have : j.val < 8 := j.isLt; have := s.isLt; show ((semK k j s).val - 4) / 16 % 4 = _; rw [semK_val]; omega)
theorem devOf_semK (k : Fin 4) (j : Dev nD) (s : Fin 2) : devOf (semK k j s) = j :=
  Fin.ext (by have := k.isLt; have : j.val < 8 := j.isLt; have := s.isLt; show ((semK k j s).val - 4) / 2 % 8 = _; rw [semK_val]; omega)
theorem halfOf_semK (k : Fin 4) (j : Dev nD) (s : Fin 2) : halfOf (semK k j s) = s :=
  Fin.ext (by have := k.isLt; have : j.val < 8 := j.isLt; have := s.isLt; show ((semK k j s).val - 4) % 2 = _; rw [semK_val]; omega)
theorem semK_of (q : DmaSem sig) (h : 4 ≤ q.val) : semK (arrOf q) (devOf q) (halfOf q) = q :=
  Fin.ext (by have : q.val < 68 := q.isLt; show 4 + 16 * ((q.val - 4) / 16 % 4) + 2 * ((q.val - 4) / 2 % 8) + (q.val - 4) % 2 = _; omega)

/-- An 8 by 2 array laid from `b` holds at row `j`, column `s` the semaphore `b + 2 j + s`. -/
theorem ix_val (b : ℕ) (hb : b + S8x2.numel ≤ 68) {off : Fin 2 → ℕ} {h} (j : Dev nD) (s : Fin 2) (hoff : off = ![j.val, s.val]) :
    (((SemArray.consecutive b S8x2 hb).slice (Rect.unit (s := S8x2) off S1x1.size h)).squeeze S_ squeezes_S1x1_S_).sem.val
      = b + 2 * j.val + s.val := by
  subst hoff
  show b + (S8x2.rowMajor ((Rect.unit (s := S8x2) ![j.val, s.val] S1x1.size h).emb (Shape.reshapeEquiv squeezes_S1x1_S_.numel_eq _))).val = _
  generalize (Shape.reshapeEquiv squeezes_S1x1_S_.numel_eq _) = x
  have hx0 : (x 0).val < 1 := (x 0).isLt
  have hx1 : (x 1).val < 1 := (x 1).isLt
  rw [Shape.rowMajor_val_two, Rect.emb_apply, Rect.emb_apply]
  show b + ((j.val + 1 * (x 0).val) * 2 + (s.val + 1 * (x 1).val)) = _
  omega

/-- An array's semaphore at an offset is `semK`'s. -/
theorem sem1_eq {off : Fin 2 → ℕ} {h} (j : Dev nD) (s : Fin 2) (hoff : off = ![j.val, s.val]) :
    ((cc0_scratch1.slice (Rect.unit (s := S8x2) off S1x1.size h)).squeeze S_ squeezes_S1x1_S_).sem = semK 0 j s :=
  Fin.ext (ix_val 4 _ j s hoff)
theorem sem2_eq {off : Fin 2 → ℕ} {h} (j : Dev nD) (s : Fin 2) (hoff : off = ![j.val, s.val]) :
    ((cc0_scratch2.slice (Rect.unit (s := S8x2) off S1x1.size h)).squeeze S_ squeezes_S1x1_S_).sem = semK 1 j s :=
  Fin.ext (ix_val 20 _ j s hoff)
theorem sem3_eq {off : Fin 2 → ℕ} {h} (j : Dev nD) (s : Fin 2) (hoff : off = ![j.val, s.val]) :
    ((cc0_scratch3.slice (Rect.unit (s := S8x2) off S1x1.size h)).squeeze S_ squeezes_S1x1_S_).sem = semK 2 j s :=
  Fin.ext (ix_val 36 _ j s hoff)
theorem sem4_eq {off : Fin 2 → ℕ} {h} (j : Dev nD) (s : Fin 2) (hoff : off = ![j.val, s.val]) :
    ((cc0_scratch4.slice (Rect.unit (s := S8x2) off S1x1.size h)).squeeze S_ squeezes_S1x1_S_).sem = semK 3 j s :=
  Fin.ext (ix_val 52 _ j s hoff)

end Cert.Exchange

end

end
-- ==== Proof.Schedule.lean ====
/-
What the buffers hold and who hands what to whom.

`recvAll c` is what device `c`'s landing buffer holds once all transfers of the first phase have landed; `rows c s` is the
half `s` of the normalised rows device `c` computes from it; `outFull` is the whole result, the same on every device.
`sched` is the schedule of the semaphores: a device's barrier semaphore is paid one unit by each other device, which hands
over the pieces of its own landing and result buffers that the barrier's owner will write; each DMA semaphore is paid
one transfer's credit, which hands over the piece the transfer read (send arrays) or wrote (receive arrays).
-/
module

public import proofs.«01_k».proof.Proof.Pieces

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

/-! ## The resource algebra: the pipeline library's copy and the exchange's, whose duties are named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cells -/

/-- A device's semaphores of the exchange: the barrier semaphore, and the arrays' DMA semaphores. -/
abbrev CK : Type := Option (Fin 4 × Dev nD × Fin 2)

abbrev barS : Sem sig := (SemArray.scalar (sig.barrier 0 rfl) : Sems sig S_).sem

abbrev csem : CK → SemLoc sig
  | none => .reg barS
  | some (k, j, s) => .dma (semK k j s)

abbrev barCell (c : Dev nD) : GSem nD τ sig := ((c : Thread nD τ), .reg barS)
abbrev dCell (c : Dev nD) (k : Fin 4) (j : Dev nD) (s : Fin 2) : GSem nD τ sig := ((c : Thread nD τ), .dma (semK k j s))
abbrev kcell (p : Dev nD × CK) : GSem nD τ sig := ((p.1 : Thread nD τ), csem p.2)

/-! ## Contents -/

/-- Device `c`'s partial products as staged, -/
def xstg (c : Dev nD) : (cc0_stg0_0 : Ref sig .tc).ty.Contents (Elt F) :=
  (win0_0.blk (0 : Fin 1)).view.read (Elt F) ((s₀ m ρ).mem ((c : Thread nD τ).loc main_arg0))
/-- its residual -/
def rstg (c : Dev nD) : (cc0_stg1_0 : Ref sig .tc).ty.Contents (Elt F) :=
  (win0_1.blk (0 : Fin 1)).view.read (Elt F) ((s₀ m ρ).mem ((c : Thread nD τ).loc main_arg1))
/-- and its weights. -/
def gstg (c : Dev nD) : (cc0_stg2_0 : Ref sig .tc).ty.Contents (Elt F) :=
  (win0_2.blk (0 : Fin 1)).view.read (Elt F) ((s₀ m ρ).mem ((c : Thread nD τ).loc main_arg2))

set_option backward.proofsInPublic true in
/-- Row `r`, column `x` of the one slab of partial products. -/
def pIdx (r : Fin 512) (x : Fin 512) : S1x512x512.Idx := fun a => match a with
  | ⟨0, _⟩ => (⟨0, by decide⟩ : Fin 1)
  | ⟨1, _⟩ => r
  | ⟨2, _⟩ => x

set_option backward.proofsInPublic true in
/-- Row `r`, column `x` of a piece. -/
def yIdx (r : Fin 32) (x : Fin 512) : S32x512.Idx := fun a => match a with
  | ⟨0, _⟩ => r
  | ⟨1, _⟩ => x

set_option backward.proofsInPublic true in
/-- Slab `j` of device `c`'s landing buffer: device `j`'s partial products of the rows `c` reduces. -/
def recvAll (c : Dev nD) : (cc0_scratch0 : Ref sig .tc).ty.Contents (Elt F) := fun i =>
  xstg m ρ (⟨(i 0).val, (i 0).isLt⟩ : Dev nD)
    (pIdx ⟨64 * c.val + (i 1).val, by have h : (i 1).val < 64 := (i 1).isLt; have hc : c.val < 8 := c.isLt; omega⟩ (i 2))

/-- What the kernel loads: its own rows of its own partial products, -/
def ownP (c : Dev nD) (s : Fin 2) : Vec F S1x32x512 .f32 := pBuf.view.readAt (Elt F) (pRect c s).toLoadRect (xstg m ρ c)
/-- of the residual, -/
def ownR (c : Dev nD) (s : Fin 2) : Vec F S32x512 .f32 :=
  (Memref.whole cc0_stg1_0 : Memref sig .tc .vmem S512x512 .f32).view.readAt (Elt F) (oRect c s).toLoadRect (rstg m ρ c)
/-- the weights, -/
def gam (c : Dev nD) : Vec F S512 .f32 :=
  (Memref.whole cc0_stg2_0 : Memref sig .tc .vmem S512 .f32).view.readAt (Elt F) (Rect.unit (s := S512) ![0] S512.size inb_S512_S512_0).toLoadRect (gstg m ρ c)
/-- and the landed rows of the `o`-th other device. -/
def rd (c : Dev nD) (s : Fin 2) (o : Fin 7) : Vec F S1x32x512 .f32 :=
  rBuf.view.readAt (Elt F) (rRect (peer c o) s).toLoadRect (recvAll m ρ c)

/-- The running sum of the first half's rows after four of the others, and of all but the last; -/
def acc₀ (c : Dev nD) : FVec F S32x512 .f32 :=
  k0_pay3 (k0_pay2 (k0_pay1 (ownP m ρ c 0) (ownR m ρ c 0)) (rd m ρ c 0 0) (rd m ρ c 0 1)) (rd m ρ c 0 2) (rd m ρ c 0 3)
/-- of the second half's. -/
def acc₁ (c : Dev nD) : FVec F S32x512 .f32 :=
  k0_pay9 (k0_pay8 (k0_pay7 (ownP m ρ c 1) (ownR m ρ c 1)) (rd m ρ c 1 0) (rd m ρ c 1 1)) (rd m ρ c 1 2) (rd m ρ c 1 3)

/-- The rows device `c` computes: half 0 and half 1. -/
def rows (c : Dev nD) (s : Fin 2) : FVec F S32x512 .f32 := match s with
  | ⟨0, _⟩ => k0_pay6 (k0_pay4 (acc₀ m ρ c) (rd m ρ c 0 4) (rd m ρ c 0 5)) (k0_pay5 (rd m ρ c 0 6)) (gam m ρ c)
  | ⟨1, _⟩ => k0_pay11 (k0_pay10 (acc₁ m ρ c) (rd m ρ c 1 4) (rd m ρ c 1 5) (rd m ρ c 1 6)) (gam m ρ c)

set_option backward.proofsInPublic true in
/-- The whole result: rows `64 j + 32 s ..` are device `j`'s half `s`. -/
def outFull : (cc0_stg3_0 : Ref sig .tc).ty.Contents (Elt F) := fun i =>
  rows m ρ (⟨(i 0).val / 64, by have h : (i 0).val < 512 := (i 0).isLt; show _ < 8; omega⟩ : Dev nD)
    (⟨(i 0).val % 64 / 32, by omega⟩ : Fin 2) (yIdx ⟨(i 0).val % 32, Nat.mod_lt _ (by decide)⟩ (i 1))

/-! ## What a transfer lands -/

omit [FloatOps F] in
/-- The piece device `c` sends `p` lands as slab `c` of `recvAll p`. -/
theorem recv_landed (c p : Dev nD) (s : Fin 2) (fd : (cc0_scratch0 : Ref sig .tc).ty.Contents (Elt F)) :
    ∀ i ∈ rSet c s, (rMem c s).view.write (Elt F) fd ((pMem p s).view.read (Elt F) (xstg m ρ c)) Finset.univ i = recvAll m ρ p i := by
  intro i hi
  obtain ⟨y, -, rfl⟩ := Finset.mem_map.1 hi
  refine (View.write_emb_of_mem (Val := Elt F) _ _ (Finset.mem_univ y)).trans ?_
  show xstg m ρ c ((pMem p s).view.emb y) = recvAll m ρ p ((rMem c s).view.emb y)
  rw [p_emb, r_emb]
  unfold recvAll
  have hc : (⟨((rRect c s).emb (inner y) 0).val, ((rRect c s).emb (inner y) 0).isLt⟩ : Dev nD) = c := Fin.ext (rRect_emb_0 c s _)
  rw [hc]
  congr 1
  funext a
  fin_cases a
  · exact Fin.ext ((pRect_emb_0 p s _).trans rfl)
  · refine Fin.ext ((pRect_emb_1 p s _).trans ?_)
    show _ = 64 * p.val + ((rRect c s).emb (inner y) 1).val
    rw [rRect_emb_1]; omega
  · refine Fin.ext ((pRect_emb_2 p s _).trans ?_)
    show _ = ((rRect c s).emb (inner y) 2).val
    rw [rRect_emb_2]

/-- Row `y` of device `c`'s half `s`, in the whole result. -/
theorem outFull_emb (c : Dev nD) (s : Fin 2) (y : S32x512.Idx) : outFull m ρ ((oMem c s).view.emb y) = rows m ρ c s y := by
  have h0 := oRect_emb_0 c s y
  have h1 := oRect_emb_1 c s y
  have hy0 : (y 0).val < 32 := (y 0).isLt
  have hs := s.isLt
  rw [o_emb]; unfold outFull
  have e1 : (⟨((oRect c s).emb y 0).val / 64, by have h : ((oRect c s).emb y 0).val < 512 := ((oRect c s).emb y 0).isLt; show _ < 8; omega⟩ : Dev nD) = c :=
    Fin.ext (by show ((oRect c s).emb y 0).val / 64 = c.val; rw [h0]; omega)
  have e2 : (⟨((oRect c s).emb y 0).val % 64 / 32, by omega⟩ : Fin 2) = s :=
    Fin.ext (by show ((oRect c s).emb y 0).val % 64 / 32 = s.val; rw [h0]; omega)
  rw [e1, e2]
  congr 1
  funext a
  fin_cases a
  · refine Fin.ext ?_
    show ((oRect c s).emb y 0).val % 32 = (y 0).val
    rw [h0]; omega
  · exact Fin.ext h1

/-- The store of a computed half leaves the result's rows there. -/
theorem out_stored (c : Dev nD) (s : Fin 2) (fd : (cc0_stg3_0 : Ref sig .tc).ty.Contents (Elt F)) :
    ∀ i ∈ oSet c s, (oBuf.access (oRect c s) : View sig .tc _ _ _).write (Elt F) fd (rows m ρ c s) Finset.univ i = outFull m ρ i := by
  intro i hi
  obtain ⟨y, -, rfl⟩ := Finset.mem_map.1 hi
  rw [outFull_emb]
  exact View.write_emb_of_mem (Val := Elt F) (v := (oBuf.access (oRect c s) : View sig .tc _ _ _)) _ _ (Finset.mem_univ y)

/-- A transfer of a piece of the result lands the result's piece. -/
theorem out_landed (c : Dev nD) (s : Fin 2) (fd : (cc0_stg3_0 : Ref sig .tc).ty.Contents (Elt F)) :
    ∀ i ∈ oSet c s, (oMem c s).view.write (Elt F) fd ((oMem c s).view.read (Elt F) (outFull m ρ)) Finset.univ i = outFull m ρ i := by
  intro i hi
  obtain ⟨y, -, rfl⟩ := Finset.mem_map.1 hi
  exact View.write_emb_of_mem (Val := Elt F) _ _ (Finset.mem_univ y)

/-! ## Ownership of pieces -/

def pPts (c j : Dev nD) (s : Fin 2) : sProp 𝕄 := ((c : Thread nD τ).loc cc0_stg0_0) ↦[pSet j s]{fullShare} xstg m ρ c
def rPts (c j : Dev nD) (s : Fin 2) (f : Buf (Elt F) ((c : Thread nD τ).loc cc0_scratch0)) : sProp 𝕄 :=
  ((c : Thread nD τ).loc cc0_scratch0) ↦[rSet j s]{fullShare} f
def oPts (c j : Dev nD) (s : Fin 2) (q : PosShare TreeShare) (f : Buf (Elt F) ((c : Thread nD τ).loc cc0_stg3_0)) : sProp 𝕄 :=
  ((c : Thread nD τ).loc cc0_stg3_0) ↦[oSet j s]{q} f

omit [FloatOps F] in
instance pPts_storable (c j : Dev nD) (s : Fin 2) : BI.Storable (upEmb : UEmb _ 𝕄) (pPts (F := F) m ρ c j s) := by unfold pPts; infer_instance
omit [FloatOps F] in
instance rPts_storable (c j : Dev nD) (s : Fin 2) (f) : BI.Storable (upEmb : UEmb _ 𝕄) (rPts (F := F) c j s f) := by unfold rPts; infer_instance
omit [FloatOps F] in
instance oPts_storable (c j : Dev nD) (s : Fin 2) (q) (f) : BI.Storable (upEmb : UEmb _ 𝕄) (oPts (F := F) c j s q f) := by unfold oPts; infer_instance

/-! ## The schedule -/

/-- What device `p`'s signal hands the barrier's owner `c`: the pieces of `p`'s landing buffer and of `p`'s result that
    `c`'s transfers write. -/
def barPay (c p : Dev nD) : sProp 𝕄 :=
  iprop(((∃ f, rPts p c 0 f) ∗ (∃ f, rPts p c 1 f)) ∗ ((∃ f, oPts p c 0 fullShare f) ∗ (∃ f, oPts p c 1 fullShare f)))

/-- What a transfer's credit hands the owner `c` of the semaphore for device `j`, half `s`. -/
def dmaPay (c : Dev nD) (k : Fin 4) (j : Dev nD) (s : Fin 2) : sProp 𝕄 := match k with
  | ⟨0, _⟩ => pPts m ρ c j s
  | ⟨1, _⟩ => rPts c j s (recvAll m ρ c)
  | ⟨2, _⟩ => oPts c c s (shareTok fullShare 7 (place c j)) (outFull m ρ)
  | ⟨3, _⟩ => oPts c j s fullShare (outFull m ρ)

instance barPay_storable (c p : Dev nD) : BI.Storable (upEmb : UEmb _ 𝕄) (barPay (F := F) c p) := by unfold barPay; infer_instance
instance dmaPay_storable (c : Dev nD) (k : Fin 4) (j : Dev nD) (s : Fin 2) : BI.Storable (upEmb : UEmb _ 𝕄) (dmaPay (F := F) m ρ c k j s) := by
  unfold dmaPay; split <;> infer_instance

abbrev dutyOf (c : Dev nD) : SemLoc sig → Finset (Dev nD)
  | .reg _ => Finset.univ.erase c
  | .dma q => if 4 ≤ q.val ∧ devOf q ≠ c then {0} else ∅

abbrev payOf (c : Dev nD) (d : Dev nD) : SemLoc sig → sProp 𝕄
  | .reg _ => barPay c d
  | .dma q => dmaPay m ρ c (arrOf q) (devOf q) (halfOf q)

abbrev amtOf : SemLoc sig → ℕ
  | .reg _ => 1
  | .dma _ => N

/-- One round, round 0. -/
def sched : Rounds.Schedule (GSem nD τ sig) (Dev nD) 𝕄 where
  duties g r := if r = 0 ∧ g.1.2 = .tc then dutyOf g.1.1 g.2 else ∅
  unitless _ := False
  amount g _ _ := amtOf g.2
  payload g _ d := payOf m ρ g.1.1 d g.2
  amount_pos g _ _ _ := by
    obtain ⟨t, sm⟩ := g
    cases sm with
    | reg q => exact Nat.one_pos
    | dma q => exact N_pos

instance sched_payload_storable (g : GSem nD τ sig) (r : ℕ) (d : Dev nD) :
    BI.Storable (upEmb : UEmb _ 𝕄) ((sched (F := F) m ρ).payload g r d) := by
  obtain ⟨t, sm⟩ := g
  cases sm with
  | reg q => exact barPay_storable t.1 d
  | dma q => exact dmaPay_storable m ρ t.1 _ _ _

theorem duties_bar (c : Dev nD) : (sched (F := F) m ρ).duties (barCell c) 0 = Finset.univ.erase c := by
  dsimp only [sched]; exact if_pos ⟨rfl, rfl⟩
theorem duties_dma (c : Dev nD) (k : Fin 4) (j : Dev nD) (s : Fin 2) (h : j ≠ c) : (sched (F := F) m ρ).duties (dCell c k j s) 0 = {0} := by
  dsimp only [sched]
  refine (if_pos ⟨rfl, rfl⟩).trans (if_pos ⟨semK_ge k j s, ?_⟩)
  rw [devOf_semK]; exact h
theorem duties_own (c : Dev nD) (k : Fin 4) (s : Fin 2) : ∀ r ≥ 0, (sched (F := F) m ρ).duties (dCell c k c s) r = ∅ := by
  intro r _
  dsimp only [sched]
  split
  · refine if_neg fun h => h.2 ?_
    rw [devOf_semK]
  · rfl
theorem duties_later (g : GSem nD τ sig) : ∀ r ≥ 0 + 1, (sched (F := F) m ρ).duties g r = ∅ :=
  fun r hr => if_neg fun h => by have := h.1; omega

theorem payload_bar (c d : Dev nD) : (sched (F := F) m ρ).payload (barCell c) 0 d = barPay c d := rfl
theorem payload_dma (c : Dev nD) (k : Fin 4) (j : Dev nD) (s : Fin 2) (d : Dev nD) :
    (sched (F := F) m ρ).payload (dCell c k j s) 0 d = dmaPay m ρ c k j s := by
  show dmaPay m ρ c (arrOf (semK k j s)) (devOf (semK k j s)) (halfOf (semK k j s)) = _
  rw [arrOf_semK, devOf_semK, halfOf_semK]

theorem expect_bar (c : Dev nD) : (sched (F := F) m ρ).expect (barCell c) 0 = 7 := by
  unfold Schedule.expect Schedule.amountOf
  rw [duties_bar]
  refine (Finset.sum_const 1).trans ?_
  rw [Finset.card_erase_of_mem (Finset.mem_univ _), Finset.card_univ, Fintype.card_fin, smul_eq_mul]; rfl
theorem expect_dma (c : Dev nD) (k : Fin 4) (j : Dev nD) (s : Fin 2) (h : j ≠ c) : (sched (F := F) m ρ).expect (dCell c k j s) 0 = N := by
  unfold Schedule.expect Schedule.amountOf; rw [duties_dma m ρ c k j s h, Finset.sum_singleton]; rfl

/-- What is left of a round nothing has been taken from: everything the duties hand over. -/
theorem rest_bar (c : Dev nD) : bigSep ((sched (F := F) m ρ).duties (barCell c) 0 \ ∅) (fun d => (sched (F := F) m ρ).payload (barCell c) 0 d)
    = bigSep (Finset.univ.erase c) fun d => barPay c d := by
  rw [Finset.sdiff_empty, duties_bar]; rfl
theorem rest_dma (c : Dev nD) (k : Fin 4) (j : Dev nD) (s : Fin 2) (h : j ≠ c) :
    bigSep ((sched (F := F) m ρ).duties (dCell c k j s) 0 \ ∅) (fun d => (sched (F := F) m ρ).payload (dCell c k j s) 0 d) = dmaPay m ρ c k j s := by
  rw [Finset.sdiff_empty, duties_dma m ρ c k j s h, bigSep_singleton, payload_dma]

/-! ## What a device owes; the levels -/

/-- The sum of `f` over the devices from place `k` on. -/
def osum (k : ℕ) (f : Fin 7 → CellTallies nD τ sig Unit) : CellTallies nD τ sig Unit := ∑ o ∈ Finset.univ.filter (fun o : Fin 7 => k ≤ o.val), f o

theorem osum_peel (o : Fin 7) (f : Fin 7 → CellTallies nD τ sig Unit) : osum o.val f = osum (o.val + 1) f + f o := by
  unfold osum
  have h : Finset.univ.filter (fun a : Fin 7 => o.val ≤ a.val) = insert o (Finset.univ.filter (fun a : Fin 7 => o.val + 1 ≤ a.val)) := by
    ext a; simp only [Finset.mem_filter, Finset.mem_univ, true_and, Finset.mem_insert, Fin.ext_iff]; omega
  rw [h, Finset.sum_insert (by simp), add_comm]
theorem osum_seven (f : Fin 7 → CellTallies nD τ sig Unit) : osum 7 f = 0 := by
  unfold osum
  rw [show Finset.univ.filter (fun a : Fin 7 => 7 ≤ a.val) = ∅ from by decide]; exact Finset.sum_empty

/-- A unit to the `o`-th other device's barrier; a piece to it in the first phase; a piece in the second. -/
def tb (c : Dev nD) (o : Fin 7) : CellTallies nD τ sig Unit := tallyAt (barCell (peer c o)) () 1
def t1 (c : Dev nD) (s : Fin 2) (o : Fin 7) : CellTallies nD τ sig Unit := tallyAt (dCell (peer c o) 1 c s) () N
def t2 (c : Dev nD) (s : Fin 2) (o : Fin 7) : CellTallies nD τ sig Unit := tallyAt (dCell (peer c o) 3 c s) () N

/-- The second phase's pieces; both phases' pieces; all a device owes at launch. -/
def O₂ (c : Dev nD) : CellTallies nD τ sig Unit := osum 0 (t2 c 0) + osum 0 (t2 c 1)
def O₁ (c : Dev nD) : CellTallies nD τ sig Unit := osum 0 (t1 c 0) + (osum 0 (t1 c 1) + O₂ c)
def O₀ (c : Dev nD) : CellTallies nD τ sig Unit := osum 0 (tb c) + O₁ c

def L (g : GSem nD τ sig) : Finset Unit := if g.1.2 = .tc then {()} else ∅

/-- The barrier semaphores at 1, the first phase's receive semaphores at 2, the second's at 3, all others at 0. -/
abbrev lvOf : SemLoc sig → ℕ
  | .reg _ => 1
  | .dma q => if 4 ≤ q.val then (if arrOf q = 1 then 2 else if arrOf q = 3 then 3 else 0) else 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

/-- Everything `O` owes is owed to TensorCores' semaphores of level above `n`. -/
def Above (n : ℕ) (O : CellTallies nD τ sig Unit) : Prop := ∀ g u, 0 < O g u → g.1.2 = .tc ∧ n < lv g u

theorem above_zero (n : ℕ) : Above n 0 := fun g u h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_tally {n : ℕ} (c : Dev nD) (sm : SemLoc sig) (k : ℕ) (h : n < lvOf sm) : Above n (tallyAt ((c : Thread nD τ), sm) () k) := fun g u hg => by
  rw [tallyAt_apply] at hg
  by_cases he : g = ((c : Thread nD τ), sm) ∧ u = ()
  · rw [he.1]; exact ⟨rfl, h⟩
  · rw [if_neg he] at hg; exact absurd hg (Nat.lt_irrefl 0)
theorem above_osum {n : ℕ} (k : ℕ) (f : Fin 7 → CellTallies nD τ sig Unit) (h : ∀ o, Above n (f o)) : Above n (osum k f) := by
  unfold osum
  exact Finset.sum_induction f (Above n) (fun _ _ => above_add) (above_zero n) fun o _ => h o

theorem lv_recv1 (j : Dev nD) (s : Fin 2) : lvOf (.dma (semK 1 j s)) = 2 := by
  show (if 4 ≤ (semK 1 j s).val then _ else _) = 2
  rw [if_pos (semK_ge 1 j s), arrOf_semK, if_pos rfl]
theorem lv_recv2 (j : Dev nD) (s : Fin 2) : lvOf (.dma (semK 3 j s)) = 3 := by
  show (if 4 ≤ (semK 3 j s).val then _ else _) = 3
  rw [if_pos (semK_ge 3 j s), arrOf_semK]; rfl

theorem above_t1 (c : Dev nD) (s : Fin 2) (k : ℕ) : Above 1 (osum k (t1 c s)) :=
  above_osum k _ fun o => above_tally _ _ _ (by rw [lv_recv1]; decide)
theorem above_t2 (n : ℕ) (hn : n < 3) (c : Dev nD) (s : Fin 2) (k : ℕ) : Above n (osum k (t2 c s)) :=
  above_osum k _ fun o => above_tally _ _ _ (by rw [lv_recv2]; exact hn)
theorem above_tb (c : Dev nD) (k : ℕ) : Above 0 (osum k (tb c)) :=
  above_osum k _ fun o => above_tally _ _ _ Nat.one_pos
theorem above_mono {n n' : ℕ} (h : n' ≤ n) {O : CellTallies nD τ sig Unit} (hO : Above n O) : Above n' O :=
  fun g u hg => ⟨(hO g u hg).1, lt_of_le_of_lt h (hO g u hg).2⟩
theorem above_O₂ (n : ℕ) (hn : n < 3) (c : Dev nD) : Above n (O₂ c) := above_add (above_t2 n hn c 0 0) (above_t2 n hn c 1 0)
theorem above_O₁ (c : Dev nD) : Above 1 (O₁ c) := above_add (above_t1 c 0 0) (above_add (above_t1 c 1 0) (above_O₂ 1 (by decide) c))
theorem above_O₀ (c : Dev nD) : Above 0 (O₀ c) := above_add (above_tb c 0) (above_mono (Nat.zero_le 1) (above_O₁ c))

omit [FloatOps F] in
/-- A device may wait on a semaphore whose level is below that of everything it owes. -/
theorem mayWait_above (c : Dev nD) (sm : SemLoc sig) (O : CellTallies nD τ sig Unit) (h : Above (lvOf sm) O) :
    (levAts L lv : sProp 𝕄) ⊢ MayWait (c : Thread nD τ) sm () O :=
  MayOwe.of_cut (L := L) (lev := lv) (lvOf sm) (fun p hp => by rw [Finset.mem_singleton.mp hp, L_tc]; exact Finset.mem_singleton_self _)
    (fun g u hg => by obtain ⟨⟨d, k⟩, sm'⟩ := g; have := (h _ u hg).1; dsimp only at this; subst this; rw [show L (((d, Proc.tc) : Thread nD τ), sm') = {()} from if_pos rfl]; exact Finset.mem_singleton_self _)
    (fun p hp => by rw [Finset.mem_singleton.mp hp]; exact le_refl _)
    (fun g u hg => (h g u hg).2)

end Cert.Exchange

end

end
-- ==== Proof.Steps.lean ====
/-
One lemma per kind of operation the kernel performs: a signal to another device's barrier, the barrier wait, a transfer
of either phase, a wait for a transfer, and the loads and the store. Each says that what is held before the operation
suffices for it if what is held after it suffices for the rest of the program. The work still to do with the seven
other devices is held as `todo`, the work done as `done`; a step moves one device from the one to the other.
-/
module

public import proofs.«01_k».proof.Proof.Schedule

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

/-! ## Done and still to do -/

/-- The other devices from place `k` on; -/
def todo (k : ℕ) (Φ : Fin 7 → sProp 𝕄) : sProp 𝕄 := bigSep (Finset.univ.filter fun o : Fin 7 => k ≤ o.val) Φ
/-- those before place `k`. -/
def done (k : ℕ) (Φ : Fin 7 → sProp 𝕄) : sProp 𝕄 := bigSep (Finset.univ.filter fun o : Fin 7 => o.val < k) Φ

omit [FloatOps F] in
theorem todo_zero (Φ : Fin 7 → sProp 𝕄) : todo 0 Φ = bigSep Finset.univ Φ := by
  unfold todo; congr 1
omit [FloatOps F] in
theorem todo_seven (Φ : Fin 7 → sProp 𝕄) : todo 7 Φ = iprop(emp) := by
  unfold todo
  rw [show Finset.univ.filter (fun o : Fin 7 => 7 ≤ o.val) = ∅ from by decide]; exact bigSep_empty
omit [FloatOps F] in
theorem done_zero (Φ : Fin 7 → sProp 𝕄) : done 0 Φ = iprop(emp) := by
  unfold done
  rw [show Finset.univ.filter (fun o : Fin 7 => o.val < 0) = ∅ from by decide]; exact bigSep_empty
omit [FloatOps F] in
theorem done_seven (Φ : Fin 7 → sProp 𝕄) : done 7 Φ = bigSep Finset.univ Φ := by
  unfold done
  rw [show Finset.univ.filter (fun o : Fin 7 => o.val < 7) = Finset.univ from by decide]
omit [FloatOps F] in
theorem todo_peel (o : Fin 7) (Φ : Fin 7 → sProp 𝕄) : todo o.val Φ = iprop(Φ o ∗ todo (o.val + 1) Φ) := by
  unfold todo
  have h : Finset.univ.filter (fun a : Fin 7 => o.val ≤ a.val) = insert o (Finset.univ.filter (fun a : Fin 7 => o.val + 1 ≤ a.val)) := by
    ext a; simp only [Finset.mem_filter, Finset.mem_univ, true_and, Finset.mem_insert, Fin.ext_iff]; omega
  rw [h, bigSep_insert (by simp)]; rfl
omit [FloatOps F] in
theorem done_succ (o : Fin 7) (Φ : Fin 7 → sProp 𝕄) : done (o.val + 1) Φ = iprop(Φ o ∗ done o.val Φ) := by
  unfold done
  have h : Finset.univ.filter (fun a : Fin 7 => a.val < o.val + 1) = insert o (Finset.univ.filter (fun a : Fin 7 => a.val < o.val)) := by
    ext a; simp only [Finset.mem_filter, Finset.mem_univ, true_and, Finset.mem_insert, Fin.ext_iff]; omega
  rw [h, bigSep_insert (by simp)]; rfl

/-! ## What is held throughout -/

abbrev 𝒱₀ : Variants := Variants.none

/-- The records: every semaphore's invariant, that its round is open, and the levels. -/
def recs (K : Dev nD × CK → ℕ) : sProp 𝕄 :=
  iprop((bigSep Finset.univ fun p : Dev nD × CK => cellInv ER (sched m ρ) (K p) (kcell p))
    ∗ (bigSep Finset.univ fun p : Dev nD × CK => reached ER (kcell p) 0) ∗ levAts L lv)

instance recs_persistent (K : Dev nD × CK → ℕ) : BI.Persistent (recs (F := F) m ρ K) := by unfold recs; infer_instance

omit [FloatOps F] in
theorem pick {I : Type} [Fintype I] [DecidableEq I] (Φ : I → sProp 𝕄) (i : I) : bigSep Finset.univ Φ ⊢ Φ i := bigSep_elim (Finset.mem_univ i)

theorem recs_inv (K : Dev nD × CK → ℕ) (p : Dev nD × CK) : recs (F := F) m ρ K ⊢ cellInv ER (sched m ρ) (K p) (kcell p) := by
  unfold recs
  iintro ⟨H, -, -⟩
  iapply (pick (fun p : Dev nD × CK => cellInv ER (sched (F := F) m ρ) (K p) (kcell p)) p); iexact H
theorem recs_reached (K : Dev nD × CK → ℕ) (p : Dev nD × CK) : recs (F := F) m ρ K ⊢ reached ER (kcell p) 0 := by
  unfold recs
  iintro ⟨-, H, -⟩
  iapply (pick (fun p : Dev nD × CK => (reached ER (kcell p) 0 : sProp 𝕄)) p); iexact H
theorem recs_lev (K : Dev nD × CK → ℕ) : recs (F := F) m ρ K ⊢ levAts L lv := by
  unfold recs
  iintro ⟨-, -, H⟩
  iexact H

/-- Device `c` owes `O`. -/
def OW (c : Dev nD) (O : CellTallies nD τ sig Unit) : sProp 𝕄 := iprop(∃ W, owes (c : Thread nD τ) O W)

/-- What the loads of device `c` read that no transfer touches: its own rows of its partial products, the residual, the weights. -/
def fixed (c : Dev nD) : sProp 𝕄 :=
  iprop(pPts m ρ c c 0 ∗ pPts m ρ c c 1 ∗ (((c : Thread nD τ).loc cc0_stg1_0) ↦{fullShare} rstg m ρ c) ∗ (((c : Thread nD τ).loc cc0_stg2_0) ↦{fullShare} gstg m ρ c))

/-- The records, what is owed, and the fixed buffers. -/
def base (K : Dev nD × CK → ℕ) (c : Dev nD) (O : CellTallies nD τ sig Unit) : sProp 𝕄 := iprop(recs m ρ K ∗ OW c O ∗ fixed m ρ c)

/-! ## What a step takes and gives -/

/-- To signal the `o`-th other device: its barrier's duty and the pieces handed over. -/
def sig₁ (c : Dev nD) (o : Fin 7) : sProp 𝕄 := iprop(dutyTok ER (barCell (peer c o)) 0 c ∗ barPay (peer c o) c)

/-- To send it a piece in the first phase: the two duties, the piece sent, the piece written over; -/
def src₁ (c : Dev nD) (s : Fin 2) (o : Fin 7) : sProp 𝕄 :=
  iprop(dutyTok ER (dCell c 0 (peer c o) s) 0 0 ∗ dutyTok ER (dCell (peer c o) 1 c s) 0 0 ∗ pPts m ρ c (peer c o) s ∗ ∃ f, rPts (peer c o) c s f)
/-- and in the second: the same, the piece sent being a share of the rows just stored. -/
def src₂ (c : Dev nD) (s : Fin 2) (o : Fin 7) : sProp 𝕄 :=
  iprop(dutyTok ER (dCell c 2 (peer c o) s) 0 0 ∗ dutyTok ER (dCell (peer c o) 3 c s) 0 0 ∗ oPts c c s (shareTok fullShare 7 o) (outFull m ρ)
    ∗ ∃ f, oPts (peer c o) c s fullShare f)

/-- A transfer's credit on array `k`'s semaphore for the `o`-th other device; -/
def crd (k : Fin 4) (c : Dev nD) (s : Fin 2) (o : Fin 7) : sProp 𝕄 := cred (tallyAt (dCell c k (peer c o) s) () N)
/-- that nobody has waited there; -/
def pos (k : Fin 4) (c : Dev nD) (s : Fin 2) (o : Fin 7) : sProp 𝕄 := atPos ER (dCell c k (peer c o) s) 0 ∅ 0
/-- both, what a wait takes; -/
def wt (k : Fin 4) (c : Dev nD) (s : Fin 2) (o : Fin 7) : sProp 𝕄 := iprop(crd k c s o ∗ pos k c s o)
/-- and what it gives: the semaphore at zero, and the piece. -/
def wd (k : Fin 4) (c : Dev nD) (s : Fin 2) (o : Fin 7) : sProp 𝕄 := iprop(semVal (dCell c k (peer c o) s) 0 ∗ dmaPay m ρ c k (peer c o) s)

/-! ## The elements a load reads -/

omit [FloatOps F] in
theorem p_read (j : Dev nD) (s : Fin 2) : (pBuf.view.setOn (pRect j s).toLoadRect.set : Finset S1x512x512.Idx) ⊆ pSet j s := by
  rw [pSet_eq]; intro i hi; obtain ⟨x, hx, rfl⟩ := Finset.mem_map.1 hi; exact hx
omit [FloatOps F] in
theorem r_read (j : Dev nD) (s : Fin 2) : (rBuf.view.setOn (rRect j s).toLoadRect.set : Finset S8x64x512.Idx) ⊆ rSet j s := by
  rw [rSet_eq]; intro i hi; obtain ⟨x, hx, rfl⟩ := Finset.mem_map.1 hi; exact hx
omit [FloatOps F] in
theorem o_read (j : Dev nD) (s : Fin 2) : (oBuf.view.setOn (oRect j s).toLoadRect.set : Finset S512x512.Idx) ⊆ oSet j s := by
  rw [oSet_eq]; intro i hi; obtain ⟨x, hx, rfl⟩ := Finset.mem_map.1 hi; exact hx

/-! ## The steps -/

section Steps

variable (K : Dev nD × CK → ℕ) (c : Dev nD) {α : Type} {Q : α → sProp (MT nD τ sig Unit (Elt F) ℕ UU ℕ)}
  {O : CellTallies nD τ sig Unit} {A R : sProp (MT nD τ sig Unit (Elt F) ℕ UU ℕ)}

abbrev wpc (p : Prog (TpuEff nD τ sig (Elt F) Λ₀ .tc) α) (Q : α → sProp 𝕄) : sProp 𝕄 :=
  wp frame (wpE (defs₀ (F := F)) 𝒱₀ (c : Thread nD τ) none) Set.univ p Q

/-- A signal to the `o`-th other device's barrier. -/
theorem signal_step (o : Fin 7) {n : Dev nD} (hn : n = peer c o) {z : ℤ} (hz : z = ((1 : ℕ) : ℤ))
    {k : PUnit → Prog (TpuEff nD τ sig (Elt F) Λ₀ .tc) α}
    (h : iprop(base m ρ K c (osum (o.val + 1) (tb c) + O) ∗ todo (o.val + 1) (sig₁ c) ∗ R) ⊢ wpc c (k ⟨⟩) Q) :
    iprop(base m ρ K c (osum o.val (tb c) + O) ∗ todo o.val (sig₁ c) ∗ R)
      ⊢ wpc c (.op (.semSignal ((n, .tc) : Thread nD τ) barS z) k) Q := by
  subst hn; subst hz
  rw [todo_peel]
  unfold base OW sig₁
  iintro ⟨⟨#HR, ⟨%W, HO⟩, Hfix⟩, ⟨⟨Htok, Hpay⟩, Hrest⟩, HRr⟩
  iapply (Rounds.wp_signal 𝒱₀ ER (sched m ρ) (c : Thread nD τ) none (dst := (peer c o : Thread nD τ)) (κ := K (peer c o, none)) (r := 0) (d := c) (k' := 1) (O₀ := osum o.val (tb c) + O)
      (by rw [duties_bar]; exact Finset.mem_erase.2 ⟨(peer_ne c o).symm, Finset.mem_univ _⟩) rfl () (osum (o.val + 1) (tb c) + O)
      (by rw [osum_peel, add_right_comm]; rfl)) $$ [HO Htok Hpay]
  · isplitr; · iapply (recs_inv m ρ K (peer c o, none)); iexact HR
    isplitl [HO]; · iexact HO
    isplitl [Htok]; · iexact Htok
    isplitl [Hpay]; · rw [payload_bar]; iexact Hpay
    iapply (recs_reached m ρ K (peer c o, none)); iexact HR
  iintro HO
  iapply h
  unfold base OW sig₁
  isplitl [HO Hfix]
  · isplitr; · iexact HR
    isplitl [HO]; · iexists W; iexact HO
    iexact Hfix
  isplitl [Hrest] <;> iassumption

/-- The wait for the seven signals: what the others hand over. -/
theorem barrier_step (hO : Above 1 O) {z : ℤ} (hz : z = ((7 : ℕ) : ℤ)) {k : PUnit → Prog (TpuEff nD τ sig (Elt F) Λ₀ .tc) α}
    (h : iprop(base m ρ K c O ∗ (semVal (barCell c) 0 ∗ bigSep (Finset.univ.erase c) fun p => barPay c p) ∗ R) ⊢ wpc c (k ⟨⟩) Q) :
    iprop(base m ρ K c O ∗ (cred (tallyAt (barCell c) () 7) ∗ atPos ER (barCell c) 0 ∅ 0) ∗ R)
      ⊢ wpc c (.op (.semWait barS z) k) Q := by
  subst hz
  unfold base OW
  iintro ⟨⟨#HR, ⟨%W, HO⟩, Hfix⟩, ⟨Hc, Hat⟩, HRr⟩
  iapply (Rounds.wp_wait_rest_token 𝒱₀ ER (sched m ρ) (c : Thread nD τ) none (κ := K (c, none))
      (wpE_semWait_eq 𝒱₀ (c : Thread nD τ) none Set.univ) (Set.mem_univ _) () (O := O) (W := W) (R := 0) (m := 0) (T := ∅)
      (by rw [expect_bar])) $$ [Hc HO Hat]
  · isplitr; · iapply (recs_inv m ρ K (c, none)); iexact HR
    isplitl [Hc]; · iexact Hc
    isplitl [HO]; · iexact HO
    isplitr; · iapply (mayWait_above c (.reg barS) O hO); iapply (recs_lev m ρ K); iexact HR
    iexact Hat
  iintro ⟨HO, Hat, -, Hpay⟩
  ihave Hp := (Entails.of_eq (rest_bar m ρ c)) $$ Hpay
  imod (Rounds.cell_close ER (sched m ρ) (Set.mem_univ (K (c, none))) (fun h => h) (R := 0 + 1) (duties_later m ρ (barCell c))) $$ [Hat] with Hz
  · isplitr; · iapply (recs_inv m ρ K (c, none)); iexact HR
    iexact Hat
  iapply h
  unfold base OW
  isplitl [HO Hfix]
  · isplitr; · iexact HR
    isplitl [HO]; · iexists _; iexact HO
    iexact Hfix
  isplitl [Hz Hp]; · isplitl [Hz] <;> iassumption
  iexact HRr

/-- The transfer of a piece to the `o`-th other device, first phase. -/
theorem send1_step (s : Fin 2) (o : Fin 7) {n : Dev nD} (hn : n = peer c o) {offp offr : Fin 3 → ℕ} {offs offd : Fin 2 → ℕ} {h1 h2 h3 h4}
    (hp : offp = ![0, 64 * (peer c o).val + 32 * s.val, 0]) (hr : offr = ![c.val, 32 * s.val, 0])
    (hs : offs = ![(peer c o).val, s.val]) (hd : offd = ![c.val, s.val])
    {hsc hsrc hdst hsem} {k : PUnit → Prog (TpuEff nD τ sig (Elt F) Λ₀ .tc) α}
    (h : iprop(base m ρ K c (osum (o.val + 1) (t1 c s) + O) ∗ todo (o.val + 1) (src₁ m ρ c s) ∗ done (o.val + 1) (crd 0 c s) ∗ R) ⊢ wpc c (k ⟨⟩) Q) :
    iprop(base m ρ K c (osum o.val (t1 c s) + O) ∗ todo o.val (src₁ m ρ c s) ∗ done o.val (crd 0 c s) ∗ R)
      ⊢ wpc c (.op (.enqueueDma ((pBuf.slice (Rect.unit (s := S1x512x512) offp S1x32x512.size h1) (fun _ => rfl)).squeeze S32x512 squeezes_S1x32x512_S32x512)
          (.remote (Dev.tc n : Thread nD τ) ((rBuf.slice (Rect.unit (s := S8x64x512) offr S1x32x512.size h2) (fun _ => rfl)).squeeze S32x512 squeezes_S1x32x512_S32x512)
            (.dma ((cc0_scratch1.slice (Rect.unit (s := S8x2) offs S1x1.size h3)).squeeze S_ squeezes_S1x1_S_).sem) hsc)
          (.dma ((cc0_scratch2.slice (Rect.unit (s := S8x2) offd S1x1.size h4)).squeeze S_ squeezes_S1x1_S_).sem) hsrc hdst hsem) k) Q := by
  revert hsem
  rw [sem1_eq (peer c o) s hs, sem2_eq c s hd]
  intro hsem
  subst hn; subst hp; subst hr
  rw [todo_peel, done_succ] at *
  unfold base OW src₁ at *
  iintro ⟨⟨#HR, ⟨%W, HO⟩, Hfix⟩, ⟨⟨Ht1, Ht2, Hp, ⟨%f, Hr⟩⟩, Hrest⟩, Hdone, HRr⟩
  iapply (Rounds.wp_send_pointsTo 𝒱₀ ER (sched m ρ) (c : Thread nD τ) none (c' := (peer c o : Thread nD τ)) (src := pMem (peer c o) s) (dst := rMem c s)
      (κ₁ := K (c, some (0, peer c o, s))) (κ₂ := K (peer c o, some (1, c, s)))
      (r₁ := 0) (r₂ := 0) (d₁ := 0) (d₂ := 0) (fs := xstg m ρ c) (fd := f) (q := fullShare)
      (by rw [duties_dma m ρ c 0 (peer c o) s (peer_ne c o)]; exact Finset.mem_singleton_self _)
      (by rw [duties_dma m ρ (peer c o) 1 c s (peer_ne c o).symm]; exact Finset.mem_singleton_self _)
      () () N rfl rfl rfl (O₀ := osum o.val (t1 c s) + O) (osum (o.val + 1) (t1 c s) + O) (by rw [osum_peel, add_right_comm]; rfl) (W := W)
      (by rw [payload_dma]; exact BI.Entails.refl _)
      (by rw [payload_dma]; exact Entails.of_eq (pointsTo_congr (recv_landed m ρ c (peer c o) s f)))) $$ [HO Ht1 Ht2 Hp Hr]
  · isplitr; · iapply (recs_inv m ρ K (c, some (0, peer c o, s))); iexact HR
    isplitr; · iapply (recs_inv m ρ K (peer c o, some (1, c, s))); iexact HR
    isplitl [Hp]; · unfold pPts; iexact Hp
    isplitl [Hr]; · unfold rPts; iexact Hr
    isplitl [HO]; · iexact HO
    isplitl [Ht1]; · iexact Ht1
    isplitr; · iapply (recs_reached m ρ K (c, some (0, peer c o, s))); iexact HR
    isplitl [Ht2]; · iexact Ht2
    iapply (recs_reached m ρ K (peer c o, some (1, c, s))); iexact HR
  iintro ⟨Hc, HO⟩
  iapply h
  isplitl [HO Hfix]
  · isplitr; · iexact HR
    isplitl [HO]; · iexists W; iexact HO
    iexact Hfix
  isplitl [Hrest]; · iexact Hrest
  isplitl [Hc Hdone]
  · isplitl [Hc]; · unfold crd; iexact Hc
    iexact Hdone
  iexact HRr

/-- The transfer of the computed rows to the `o`-th other device, second phase. -/
theorem send2_step (s : Fin 2) (o : Fin 7) {n : Dev nD} (hn : n = peer c o) {offo offs offd : Fin 2 → ℕ} {h1 h3 h4}
    (ho : offo = ![64 * c.val + 32 * s.val, 0])
    (hs : offs = ![(peer c o).val, s.val]) (hd : offd = ![c.val, s.val])
    {hsc hsrc hdst hsem} {k : PUnit → Prog (TpuEff nD τ sig (Elt F) Λ₀ .tc) α}
    (h : iprop(base m ρ K c (osum (o.val + 1) (t2 c s) + O) ∗ todo (o.val + 1) (src₂ m ρ c s) ∗ done (o.val + 1) (crd 2 c s) ∗ R) ⊢ wpc c (k ⟨⟩) Q) :
    iprop(base m ρ K c (osum o.val (t2 c s) + O) ∗ todo o.val (src₂ m ρ c s) ∗ done o.val (crd 2 c s) ∗ R)
      ⊢ wpc c (.op (.enqueueDma (oBuf.slice (Rect.unit (s := S512x512) offo S32x512.size h1) (fun _ => rfl))
          (.remote (Dev.tc n : Thread nD τ) (oBuf.slice (Rect.unit (s := S512x512) offo S32x512.size h1) (fun _ => rfl))
            (.dma ((cc0_scratch3.slice (Rect.unit (s := S8x2) offs S1x1.size h3)).squeeze S_ squeezes_S1x1_S_).sem) hsc)
          (.dma ((cc0_scratch4.slice (Rect.unit (s := S8x2) offd S1x1.size h4)).squeeze S_ squeezes_S1x1_S_).sem) hsrc hdst hsem) k) Q := by
  revert hsem
  rw [sem3_eq (peer c o) s hs, sem4_eq c s hd]
  intro hsem
  subst hn; subst ho
  rw [todo_peel, done_succ] at *
  unfold base OW src₂ at *
  iintro ⟨⟨#HR, ⟨%W, HO⟩, Hfix⟩, ⟨⟨Ht1, Ht2, Hp, ⟨%f, Hr⟩⟩, Hrest⟩, Hdone, HRr⟩
  iapply (Rounds.wp_send_pointsTo 𝒱₀ ER (sched m ρ) (c : Thread nD τ) none (c' := (peer c o : Thread nD τ)) (src := oMem c s) (dst := oMem c s)
      (κ₁ := K (c, some (2, peer c o, s))) (κ₂ := K (peer c o, some (3, c, s)))
      (r₁ := 0) (r₂ := 0) (d₁ := 0) (d₂ := 0) (fs := outFull m ρ) (fd := f) (q := shareTok fullShare 7 o)
      (by rw [duties_dma m ρ c 2 (peer c o) s (peer_ne c o)]; exact Finset.mem_singleton_self _)
      (by rw [duties_dma m ρ (peer c o) 3 c s (peer_ne c o).symm]; exact Finset.mem_singleton_self _)
      () () N rfl rfl rfl (O₀ := osum o.val (t2 c s) + O) (osum (o.val + 1) (t2 c s) + O) (by rw [osum_peel, add_right_comm]; rfl) (W := W)
      (by rw [payload_dma]; show _ ⊢ oPts c c s (shareTok fullShare 7 (place c (peer c o))) (outFull m ρ); rw [place_peer]; exact BI.Entails.refl _)
      (by rw [payload_dma]; exact Entails.of_eq (pointsTo_congr (out_landed m ρ c s f)))) $$ [HO Ht1 Ht2 Hp Hr]
  · isplitr; · iapply (recs_inv m ρ K (c, some (2, peer c o, s))); iexact HR
    isplitr; · iapply (recs_inv m ρ K (peer c o, some (3, c, s))); iexact HR
    isplitl [Hp]; · unfold oPts; iexact Hp
    isplitl [Hr]; · unfold oPts; iexact Hr
    isplitl [HO]; · iexact HO
    isplitl [Ht1]; · iexact Ht1
    isplitr; · iapply (recs_reached m ρ K (c, some (2, peer c o, s))); iexact HR
    isplitl [Ht2]; · iexact Ht2
    iapply (recs_reached m ρ K (peer c o, some (3, c, s))); iexact HR
  iintro ⟨Hc, HO⟩
  iapply h
  isplitl [HO Hfix]
  · isplitr; · iexact HR
    isplitl [HO]; · iexists W; iexact HO
    iexact Hfix
  isplitl [Hrest]; · iexact Hrest
  isplitl [Hc Hdone]
  · isplitl [Hc]; · unfold crd; iexact Hc
    iexact Hdone
  iexact HRr

/-- A wait for one transfer on array `kd`'s semaphore for the `o`-th other device. -/
theorem wait_step (kd : Fin 4) (s : Fin 2) (o : Fin 7) (hO : Above (lvOf (.dma (semK kd (peer c o) s))) O) {q : DmaSem sig} (hq : q = semK kd (peer c o) s)
    {sp sp' : Space} {sh sh' : Shape} {e e' : EltTy} {src : Memref sig .tc sp' sh' e'} {dst : Memref sig .tc sp sh e}
    {hsrc : src.view.WordExact} {hdst : dst.view.WordExact} (hN : dst.view.dmaCredit = N)
    {k : PUnit → Prog (TpuEff nD τ sig (Elt F) Λ₀ .tc) α}
    (h : iprop(base m ρ K c O ∗ todo (o.val + 1) (wt kd c s) ∗ done (o.val + 1) (wd m ρ kd c s) ∗ R) ⊢ wpc c (k ⟨⟩) Q) :
    iprop(base m ρ K c O ∗ todo o.val (wt kd c s) ∗ done o.val (wd m ρ kd c s) ∗ R)
      ⊢ wpc c (.op (.waitDma2 q src dst hsrc hdst) k) Q := by
  subst hq
  rw [todo_peel, done_succ] at *
  unfold base OW wt crd pos at *
  iintro ⟨⟨#HR, ⟨%W, HO⟩, Hfix⟩, ⟨⟨Hc, Hat⟩, Hrest⟩, Hdone, HRr⟩
  iapply (Rounds.wp_wait_rest_token 𝒱₀ ER (sched m ρ) (c : Thread nD τ) none (sm := .dma (semK kd (peer c o) s)) (κ := K (c, some (kd, peer c o, s)))
      (k' := N) (fun Kt => by rw [← hN]; exact wpE_waitDma2_eq 𝒱₀ (c : Thread nD τ) none Set.univ Kt) (Set.mem_univ _) () (O := O) (W := W) (R := 0) (m := 0) (T := ∅)
      (by rw [Nat.zero_add, expect_dma m ρ c kd (peer c o) s (peer_ne c o)])) $$ [Hc HO Hat]
  · isplitr; · iapply (recs_inv m ρ K (c, some (kd, peer c o, s))); iexact HR
    isplitl [Hc]; · iexact Hc
    isplitl [HO]; · iexact HO
    isplitr; · iapply (mayWait_above c _ O hO); iapply (recs_lev m ρ K); iexact HR
    iexact Hat
  iintro ⟨HO, Hat, -, Hpay⟩
  ihave Hp := (Entails.of_eq (rest_dma m ρ c kd (peer c o) s (peer_ne c o))) $$ Hpay
  imod (Rounds.cell_close ER (sched m ρ) (Set.mem_univ (K (c, some (kd, peer c o, s)))) (fun h => h) (R := 0 + 1)
    (duties_later m ρ (dCell c kd (peer c o) s))) $$ [Hat] with Hz
  · isplitr; · iapply (recs_inv m ρ K (c, some (kd, peer c o, s))); iexact HR
    iexact Hat
  iapply h
  isplitl [HO Hfix]
  · isplitr; · iexact HR
    isplitl [HO]; · iexists _; iexact HO
    iexact Hfix
  isplitl [Hrest]; · iexact Hrest
  isplitl [Hz Hp Hdone]
  · unfold wd
    isplitl [Hz Hp]; · isplitl [Hz] <;> iassumption
    iexact Hdone
  iexact HRr

/-- The load of the rows landed from the `o`-th other device. -/
theorem landed_step (s : Fin 2) (o : Fin 7) {off : Fin 3 → ℕ} {h1} (hoff : off = ![(peer c o).val, 32 * s.val, 0])
    {hl} {k : Vec F S1x32x512 .f32 → Prog (TpuEff nD τ sig (Elt F) Λ₀ .tc) α}
    {B : sProp 𝕄} (h : iprop(A ∗ B ∗ done (o.val + 1) (wd m ρ 1 c s) ∗ R) ⊢ wpc c (k (rd m ρ c s o)) Q) :
    iprop(A ∗ B ∗ done (o.val + 1) (wd m ρ 1 c s) ∗ R)
      ⊢ wpc c (.op (.load rBuf (Rect.unit (s := S8x64x512) off S1x32x512.size h1).toLoadRect hl) k) Q := by
  subst hoff
  rw [done_succ] at *
  unfold wd dmaPay rPts at *
  iintro ⟨HA, HB, ⟨⟨Hz, Hr⟩, Hd⟩, HR⟩
  iapply (wp_load 𝒱₀ (c : Thread nD τ) none Set.univ (m := rBuf) (r := (rRect (peer c o) s).toLoadRect) (S := rSet (peer c o) s) (r_read (peer c o) s)) $$ Hr
  iintro Hr
  iapply h
  isplitl [HA]; · iexact HA
  isplitl [HB]; · iexact HB
  isplitr [HR]
  · isplitl [Hz Hr]; · isplitl [Hz] <;> iassumption
    iexact Hd
  iexact HR

abbrev xBuf : Memref sig .tc .vmem S512x512 .f32 := Memref.whole cc0_stg1_0
abbrev gBuf : Memref sig .tc .vmem S512 .f32 := Memref.whole cc0_stg2_0

/-- The load of the device's own rows of its partial products. -/
theorem ownP_step (s : Fin 2) {off : Fin 3 → ℕ} {h1} (hoff : off = ![0, 64 * c.val + 32 * s.val, 0])
    {hl} {k : Vec F S1x32x512 .f32 → Prog (TpuEff nD τ sig (Elt F) Λ₀ .tc) α}
    (h : iprop(base m ρ K c O ∗ R) ⊢ wpc c (k (ownP m ρ c s)) Q) :
    iprop(base m ρ K c O ∗ R) ⊢ wpc c (.op (.load pBuf (Rect.unit (s := S1x512x512) off S1x32x512.size h1).toLoadRect hl) k) Q := by
  subst hoff
  unfold base fixed at *
  iintro ⟨⟨#HR, HO, H0, H1, Hx, Hg⟩, HRr⟩
  have hs : s = 0 ∨ s = 1 := (by decide : ∀ s : Fin 2, s = 0 ∨ s = 1) s
  rcases hs with rfl | rfl
  · unfold pPts at *
    iapply (wp_load 𝒱₀ (c : Thread nD τ) none Set.univ (m := pBuf) (r := (pRect c 0).toLoadRect) (S := pSet c 0) (p_read c 0)) $$ H0
    iintro H0
    iapply h
    isplitr [HRr]
    · isplitr; · iexact HR
      isplitl [HO]; · iexact HO
      isplitl [H0]; · iexact H0
      isplitl [H1]; · iexact H1
      isplitl [Hx] <;> iassumption
    iexact HRr
  · unfold pPts at *
    iapply (wp_load 𝒱₀ (c : Thread nD τ) none Set.univ (m := pBuf) (r := (pRect c 1).toLoadRect) (S := pSet c 1) (p_read c 1)) $$ H1
    iintro H1
    iapply h
    isplitr [HRr]
    · isplitr; · iexact HR
      isplitl [HO]; · iexact HO
      isplitl [H0]; · iexact H0
      isplitl [H1]; · iexact H1
      isplitl [Hx] <;> iassumption
    iexact HRr

/-- The load of the residual's rows. -/
theorem ownR_step (s : Fin 2) {off : Fin 2 → ℕ} {h1} (hoff : off = ![64 * c.val + 32 * s.val, 0])
    {hl} {k : Vec F S32x512 .f32 → Prog (TpuEff nD τ sig (Elt F) Λ₀ .tc) α}
    (h : iprop(base m ρ K c O ∗ R) ⊢ wpc c (k (ownR m ρ c s)) Q) :
    iprop(base m ρ K c O ∗ R) ⊢ wpc c (.op (.load xBuf (Rect.unit (s := S512x512) off S32x512.size h1).toLoadRect hl) k) Q := by
  subst hoff
  unfold base fixed at *
  iintro ⟨⟨#HR, HO, H0, H1, Hx, Hg⟩, HRr⟩
  iapply (wp_load 𝒱₀ (c : Thread nD τ) none Set.univ (m := xBuf) (r := (oRect c s).toLoadRect) (Finset.subset_univ _)) $$ Hx
  iintro Hx
  iapply h
  isplitr [HRr]
  · isplitr; · iexact HR
    isplitl [HO]; · iexact HO
    isplitl [H0]; · iexact H0
    isplitl [H1]; · iexact H1
    isplitl [Hx] <;> iassumption
  iexact HRr

/-- The load of the weights. -/
theorem gam_step {h1 hl} {k : Vec F S512 .f32 → Prog (TpuEff nD τ sig (Elt F) Λ₀ .tc) α}
    (h : iprop(base m ρ K c O ∗ R) ⊢ wpc c (k (gam m ρ c)) Q) :
    iprop(base m ρ K c O ∗ R) ⊢ wpc c (.op (.load gBuf (Rect.unit (s := S512) ![0] S512.size h1).toLoadRect hl) k) Q := by
  unfold base fixed at *
  iintro ⟨⟨#HR, HO, H0, H1, Hx, Hg⟩, HRr⟩
  iapply (wp_load 𝒱₀ (c : Thread nD τ) none Set.univ (m := gBuf) (r := (Rect.unit (s := S512) ![0] S512.size h1).toLoadRect) (Finset.subset_univ _)) $$ Hg
  iintro Hg
  iapply h
  isplitr [HRr]
  · isplitr; · iexact HR
    isplitl [HO]; · iexact HO
    isplitl [H0]; · iexact H0
    isplitl [H1]; · iexact H1
    isplitl [Hx] <;> iassumption
  iexact HRr

/-- The load of the rows about to be overwritten: its value is not used. -/
theorem dead_step (s : Fin 2) {off : Fin 2 → ℕ} {h1} (hoff : off = ![64 * c.val + 32 * s.val, 0])
    {hl} {k : Vec F S32x512 .f32 → Prog (TpuEff nD τ sig (Elt F) Λ₀ .tc) α}
    (h : ∀ v, iprop(A ∗ (∃ f, oPts c c s fullShare f) ∗ R) ⊢ wpc c (k v) Q) :
    iprop(A ∗ (∃ f, oPts c c s fullShare f) ∗ R) ⊢ wpc c (.op (.load oBuf (Rect.unit (s := S512x512) off S32x512.size h1).toLoadRect hl) k) Q := by
  subst hoff
  unfold oPts at *
  iintro ⟨HA, ⟨%f, Ho⟩, HRr⟩
  iapply (wp_load 𝒱₀ (c : Thread nD τ) none Set.univ (m := oBuf) (r := (oRect c s).toLoadRect) (S := oSet c s) (o_read c s)) $$ Ho
  iintro Ho
  iapply (h _)
  isplitl [HA]; · iexact HA
  isplitl [Ho]; · iexists f; iexact Ho
  iexact HRr

/-- The store of the computed rows. -/
theorem store_step (s : Fin 2) {off : Fin 2 → ℕ} {h1} (hoff : off = ![64 * c.val + 32 * s.val, 0])
    {hst hst'} {v : Vec F S32x512 .f32} (hv : v = rows m ρ c s) {k : PUnit → Prog (TpuEff nD τ sig (Elt F) Λ₀ .tc) α}
    (h : iprop(A ∗ oPts c c s fullShare (outFull m ρ) ∗ R) ⊢ wpc c (k ⟨⟩) Q) :
    iprop(A ∗ (∃ f, oPts c c s fullShare f) ∗ R)
      ⊢ wpc c (.op (.store oBuf (Rect.unit (s := S512x512) off S32x512.size h1) v Finset.univ hst hst') k) Q := by
  subst hoff; subst hv
  unfold oPts at *
  iintro ⟨HA, ⟨%f, Ho⟩, HRr⟩
  iapply (wp_store 𝒱₀ (c : Thread nD τ) none Set.univ (m := oBuf) (r := oRect c s) (Mk := Finset.univ) (S := oSet c s) (View.setOn_subset_set _ _)) $$ Ho
  iintro Ho
  ihave Ho := (Entails.of_eq (pointsTo_congr (out_stored m ρ c s f))) $$ Ho
  iapply h
  isplitl [HA]; · iexact HA
  isplitl [Ho]; · iexact Ho
  iexact HRr

end Steps

end Cert.Exchange

end

end
-- ==== Proof.Parts1.lean ====
/-
The signals, the barrier wait, and the transfers of the first phase, as the program groups them.
-/
module

public import proofs.«01_k».proof.Proof.Steps

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

section Parts

variable (K : Dev nD × CK → ℕ) (c : Dev nD) {Q : PUnit → sProp (MT nD τ sig Unit (Elt F) ℕ UU ℕ)}

/-- Mid-signals: the signals to the devices from place `i` on are still to come. -/
abbrev stS (i : ℕ) (O : CellTallies nD τ sig Unit) (R : sProp 𝕄) : sProp 𝕄 := iprop(base m ρ K c (osum i (tb c) + O) ∗ todo i (sig₁ c) ∗ R)
/-- Mid-first phase, half `s`: the transfers to the devices from place `i` on are still to start; -/
abbrev stP (s : Fin 2) (i : ℕ) (O : CellTallies nD τ sig Unit) (R : sProp 𝕄) : sProp 𝕄 :=
  iprop(base m ρ K c (osum i (t1 c s) + O) ∗ todo i (src₁ m ρ c s) ∗ done i (crd 0 c s) ∗ R)
/-- the same, second phase. -/
abbrev stQ (s : Fin 2) (i : ℕ) (O : CellTallies nD τ sig Unit) (R : sProp 𝕄) : sProp 𝕄 :=
  iprop(base m ρ K c (osum i (t2 c s) + O) ∗ todo i (src₂ m ρ c s) ∗ done i (crd 2 c s) ∗ R)
/-- Mid-waits on semaphore array `kd`, half `s`. -/
abbrev stW (kd : Fin 4) (s : Fin 2) (i : ℕ) (O : CellTallies nD τ sig Unit) (R : sProp 𝕄) : sProp 𝕄 :=
  iprop(base m ρ K c O ∗ todo i (wt kd c s) ∗ done i (wd m ρ kd c s) ∗ R)
/-- What the barrier wait takes; -/
abbrev bar₀ : sProp 𝕄 := iprop(cred (tallyAt (barCell c) () 7) ∗ atPos ER (barCell c) 0 ∅ 0)
/-- and what it gives. -/
abbrev bar₁ : sProp 𝕄 := iprop(semVal (barCell c) 0 ∗ bigSep (Finset.univ.erase c) fun p => barPay c p)

theorem part1  {O₁ : CellTallies nD τ sig Unit} {R₁ : sProp 𝕄}
    {k}
    (h : ∀ a x y : BitVec 32, stS m ρ K c 5 O₁ R₁ ⊢ wpc c (k ⟨c, a, SemArray.scalar (sig.barrier 0 rfl), x, y⟩) Q) :
    stS m ρ K c 0 O₁ R₁ ⊢ wpc c (k0_part1 (F := F) pBuf (Memref.isWhole_whole _) xBuf (Memref.isWhole_whole _) gBuf (Memref.isWhole_whole _) oBuf (Memref.isWhole_whole _) rBuf (Memref.isWhole_whole _) cc0_scratch1 cc0_scratch2 cc0_scratch3 cc0_scratch4  >>= k) Q := by
  rw [k0_part1_eq_skeleton]
  simp only [k0_part1_skel, semSignalWord, semWaitWord, Prog.lift, Prog.bind_op, Prog.bind_ret, Prog.pure_eq_ret, wp_deviceId]
  refine signal_step m ρ K c 0 (Fin.ext (k0_dev1_eq c)) rfl ?_
  refine signal_step m ρ K c 1 (Fin.ext (k0_dev2_eq c)) rfl ?_
  refine signal_step m ρ K c 2 (Fin.ext (k0_dev3_eq c)) rfl ?_
  refine signal_step m ρ K c 3 (Fin.ext (k0_dev4_eq c)) rfl ?_
  refine signal_step m ρ K c 4 (Fin.ext (k0_dev5_eq c)) rfl ?_
  exact h _ _ _

theorem part2 (a : BitVec 32) (x y : BitVec 32) {O₁ O₂ O₃ : CellTallies nD τ sig Unit} {R₁ R₂ R₃ : sProp 𝕄}
    {k} (e1 : stS m ρ K c 7 O₁ R₁ ⊢ iprop(base m ρ K c O₂ ∗ bar₀ c ∗ R₂)) (hB : Above 1 O₂) (e2 : iprop(base m ρ K c O₂ ∗ bar₁ c ∗ R₂) ⊢ stP m ρ K c 0 0 O₃ R₃)
    (h : ∀ p : BitVec 32, stP m ρ K c 0 1 O₃ R₃ ⊢ wpc c (k (p)) Q) :
    stS m ρ K c 5 O₁ R₁ ⊢ wpc c (k0_part2 (F := F) pBuf (Memref.isWhole_whole _) xBuf (Memref.isWhole_whole _) gBuf (Memref.isWhole_whole _) oBuf (Memref.isWhole_whole _) rBuf (Memref.isWhole_whole _) cc0_scratch1 cc0_scratch2 cc0_scratch3 cc0_scratch4 c a (SemArray.scalar (sig.barrier 0 rfl)) x y >>= k) Q := by
  rw [k0_part2_eq_skeleton]
  simp only [k0_part2_skel, semSignalWord, semWaitWord, Prog.lift, Prog.bind_op, Prog.bind_ret, Prog.pure_eq_ret]
  refine signal_step m ρ K c 5 (Fin.ext (k0_dev6_eq c)) rfl ?_
  refine signal_step m ρ K c 6 (Fin.ext (k0_dev7_eq c)) rfl ?_
  refine BIBase.Entails.trans e1 ?_
  refine barrier_step m ρ K c hB rfl ?_
  refine BIBase.Entails.trans e2 ?_
  refine send1_step m ρ K c 0 0 (Fin.ext (k0_dev8_eq c)) (k0_off4_eq c 0 0) (k0_off3_eq c) (k0_off1_eq c 0) (k0_off2_eq c) ?_
  exact h _

theorem part3 (a : BitVec 32) (x : BitVec 32) {O₁ : CellTallies nD τ sig Unit} {R₁ : sProp 𝕄}
    {k}
    (h : stP m ρ K c 0 3 O₁ R₁ ⊢ wpc c (k ⟨⟩) Q) :
    stP m ρ K c 0 1 O₁ R₁ ⊢ wpc c (k0_part3 (F := F) pBuf (Memref.isWhole_whole _) xBuf (Memref.isWhole_whole _) gBuf (Memref.isWhole_whole _) oBuf (Memref.isWhole_whole _) rBuf (Memref.isWhole_whole _) cc0_scratch1 cc0_scratch2 cc0_scratch3 cc0_scratch4 c a x >>= k) Q := by
  rw [k0_part3_eq_skeleton]
  simp only [k0_part3_skel, semSignalWord, semWaitWord, Prog.lift, Prog.bind_op, Prog.bind_ret, Prog.pure_eq_ret]
  refine send1_step m ρ K c 0 1 (Fin.ext (k0_dev9_eq c)) (k0_off4_eq c 1 0) (k0_off3_eq c) (k0_off1_eq c 1) (k0_off2_eq c) ?_
  refine send1_step m ρ K c 0 2 (Fin.ext (k0_dev10_eq c)) (k0_off4_eq c 2 0) (k0_off3_eq c) (k0_off1_eq c 2) (k0_off2_eq c) ?_
  exact h

theorem part4 (a : BitVec 32) {O₁ : CellTallies nD τ sig Unit} {R₁ : sProp 𝕄}
    {k}
    (h : stP m ρ K c 0 5 O₁ R₁ ⊢ wpc c (k ⟨⟩) Q) :
    stP m ρ K c 0 3 O₁ R₁ ⊢ wpc c (k0_part4 (F := F) pBuf (Memref.isWhole_whole _) xBuf (Memref.isWhole_whole _) gBuf (Memref.isWhole_whole _) oBuf (Memref.isWhole_whole _) rBuf (Memref.isWhole_whole _) cc0_scratch1 cc0_scratch2 cc0_scratch3 cc0_scratch4 c a >>= k) Q := by
  rw [k0_part4_eq_skeleton]
  simp only [k0_part4_skel, semSignalWord, semWaitWord, Prog.lift, Prog.bind_op, Prog.bind_ret, Prog.pure_eq_ret]
  refine send1_step m ρ K c 0 3 (Fin.ext (k0_dev11_eq c)) (k0_off4_eq c 3 0) (k0_off3_eq c) (k0_off1_eq c 3) (k0_off2_eq c) ?_
  refine send1_step m ρ K c 0 4 (Fin.ext (k0_dev12_eq c)) (k0_off4_eq c 4 0) (k0_off3_eq c) (k0_off1_eq c 4) (k0_off2_eq c) ?_
  exact h

theorem part5 (a : BitVec 32) {O₁ O₂ : CellTallies nD τ sig Unit} {R₁ R₂ : sProp 𝕄}
    {k} (e1 : stP m ρ K c 0 7 O₁ R₁ ⊢ stP m ρ K c 1 0 O₂ R₂)
    (h : ∀ p : BitVec 32, stP m ρ K c 1 1 O₂ R₂ ⊢ wpc c (k (p)) Q) :
    stP m ρ K c 0 5 O₁ R₁ ⊢ wpc c (k0_part5 (F := F) pBuf (Memref.isWhole_whole _) xBuf (Memref.isWhole_whole _) gBuf (Memref.isWhole_whole _) oBuf (Memref.isWhole_whole _) rBuf (Memref.isWhole_whole _) cc0_scratch1 cc0_scratch2 cc0_scratch3 cc0_scratch4 c a >>= k) Q := by
  rw [k0_part5_eq_skeleton]
  simp only [k0_part5_skel, semSignalWord, semWaitWord, Prog.lift, Prog.bind_op, Prog.bind_ret, Prog.pure_eq_ret]
  refine send1_step m ρ K c 0 5 (Fin.ext (k0_dev13_eq c)) (k0_off4_eq c 5 0) (k0_off3_eq c) (k0_off1_eq c 5) (k0_off2_eq c) ?_
  refine send1_step m ρ K c 0 6 (Fin.ext (k0_dev14_eq c)) (k0_off4_eq c 6 0) (k0_off3_eq c) (k0_off1_eq c 6) (k0_off2_eq c) ?_
  refine BIBase.Entails.trans e1 ?_
  refine send1_step m ρ K c 1 0 (Fin.ext (k0_dev15_eq c)) (k0_off4_eq c 0 1) (k0_off7_eq c) (k0_off5_eq c 0) (k0_off6_eq c) ?_
  exact h _

theorem part6 (a : BitVec 32) (x : BitVec 32) {O₁ : CellTallies nD τ sig Unit} {R₁ : sProp 𝕄}
    {k}
    (h : ∀ p : BitVec 32, stP m ρ K c 1 3 O₁ R₁ ⊢ wpc c (k (p)) Q) :
    stP m ρ K c 1 1 O₁ R₁ ⊢ wpc c (k0_part6 (F := F) pBuf (Memref.isWhole_whole _) xBuf (Memref.isWhole_whole _) gBuf (Memref.isWhole_whole _) oBuf (Memref.isWhole_whole _) rBuf (Memref.isWhole_whole _) cc0_scratch1 cc0_scratch2 cc0_scratch3 cc0_scratch4 c a x >>= k) Q := by
  rw [k0_part6_eq_skeleton]
  simp only [k0_part6_skel, semSignalWord, semWaitWord, Prog.lift, Prog.bind_op, Prog.bind_ret, Prog.pure_eq_ret]
  refine send1_step m ρ K c 1 1 (Fin.ext (k0_dev16_eq c)) (k0_off4_eq c 1 1) (k0_off7_eq c) (k0_off5_eq c 1) (k0_off6_eq c) ?_
  refine send1_step m ρ K c 1 2 (Fin.ext (k0_dev17_eq c)) (k0_off4_eq c 2 1) (k0_off7_eq c) (k0_off5_eq c 2) (k0_off6_eq c) ?_
  exact h _

theorem part7 (a : BitVec 32) (x : BitVec 32) {O₁ : CellTallies nD τ sig Unit} {R₁ : sProp 𝕄}
    {k}
    (h : stP m ρ K c 1 5 O₁ R₁ ⊢ wpc c (k ⟨⟩) Q) :
    stP m ρ K c 1 3 O₁ R₁ ⊢ wpc c (k0_part7 (F := F) pBuf (Memref.isWhole_whole _) xBuf (Memref.isWhole_whole _) gBuf (Memref.isWhole_whole _) oBuf (Memref.isWhole_whole _) rBuf (Memref.isWhole_whole _) cc0_scratch1 cc0_scratch2 cc0_scratch3 cc0_scratch4 c a x >>= k) Q := by
  rw [k0_part7_eq_skeleton]
  simp only [k0_part7_skel, semSignalWord, semWaitWord, Prog.lift, Prog.bind_op, Prog.bind_ret, Prog.pure_eq_ret]
  refine send1_step m ρ K c 1 3 (Fin.ext (k0_dev18_eq c)) (k0_off4_eq c 3 1) (k0_off7_eq c) (k0_off5_eq c 3) (k0_off6_eq c) ?_
  refine send1_step m ρ K c 1 4 (Fin.ext (k0_dev19_eq c)) (k0_off4_eq c 4 1) (k0_off7_eq c) (k0_off5_eq c 4) (k0_off6_eq c) ?_
  exact h

end Parts

end Cert.Exchange

end

end
-- ==== Proof.Parts2.lean ====
/-
The waits and loads of the first phase, the rows computed and stored, and the transfers of the second phase, as the program groups them.
-/
module

public import proofs.«01_k».proof.Proof.Parts1

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

section Parts

variable (K : Dev nD × CK → ℕ) (c : Dev nD) {Q : PUnit → sProp (MT nD τ sig Unit (Elt F) ℕ UU ℕ)}

theorem part8 (a : BitVec 32) {O₁ O₂ : CellTallies nD τ sig Unit} {R₁ R₂ : sProp 𝕄}
    {k} (e1 : stP m ρ K c 1 7 O₁ R₁ ⊢ iprop(base m ρ K c O₂ ∗ R₂))
    (h : ∀ p r s : BitVec 32, iprop(base m ρ K c O₂ ∗ R₂) ⊢ wpc c (k ⟨p, k0_pay1 (ownP m ρ c 0) (ownR m ρ c 0), r, s⟩) Q) :
    stP m ρ K c 1 5 O₁ R₁ ⊢ wpc c (k0_part8 (F := F) pBuf (Memref.isWhole_whole _) xBuf (Memref.isWhole_whole _) gBuf (Memref.isWhole_whole _) oBuf (Memref.isWhole_whole _) rBuf (Memref.isWhole_whole _) cc0_scratch1 cc0_scratch2 cc0_scratch3 cc0_scratch4 c a >>= k) Q := by
  rw [k0_part8_eq_skeleton]
  simp only [k0_part8_skel, semSignalWord, semWaitWord, Prog.lift, Prog.bind_op, Prog.bind_ret, Prog.pure_eq_ret]
  refine send1_step m ρ K c 1 5 (Fin.ext (k0_dev20_eq c)) (k0_off4_eq c 5 1) (k0_off7_eq c) (k0_off5_eq c 5) (k0_off6_eq c) ?_
  refine send1_step m ρ K c 1 6 (Fin.ext (k0_dev21_eq c)) (k0_off4_eq c 6 1) (k0_off7_eq c) (k0_off5_eq c 6) (k0_off6_eq c) ?_
  refine BIBase.Entails.trans e1 ?_
  refine ownP_step m ρ K c 0 (k0_off8_eq c 0) ?_
  refine ownR_step m ρ K c 0 (k0_off9_eq c 0) ?_
  exact h _ _ _

theorem part9 (a : BitVec 32) (v : FVec F S32x512 .f32) (x : BitVec 32) (y : BitVec 32) {O₁ : CellTallies nD τ sig Unit} {R₁ : sProp 𝕄}
    {k} (h10 : ∀ j, Above (lvOf (.dma (semK 1 j 0))) O₁)
    (h : ∀ q : BitVec 32, stW m ρ K c 1 0 2 O₁ R₁ ⊢ wpc c (k ⟨k0_pay2 v (rd m ρ c 0 0) (rd m ρ c 0 1), q⟩) Q) :
    stW m ρ K c 1 0 0 O₁ R₁ ⊢ wpc c (k0_part9 (F := F) pBuf (Memref.isWhole_whole _) xBuf (Memref.isWhole_whole _) gBuf (Memref.isWhole_whole _) oBuf (Memref.isWhole_whole _) rBuf (Memref.isWhole_whole _) cc0_scratch1 cc0_scratch2 cc0_scratch3 cc0_scratch4 c a v x y >>= k) Q := by
  rw [k0_part9_eq_skeleton]
  simp only [k0_part9_skel, semSignalWord, semWaitWord, Prog.lift, Prog.bind_op, Prog.bind_ret, Prog.pure_eq_ret]
  refine wait_step m ρ K c 1 0 0 (h10 _) (sem2_eq _ 0 (k0_off1_eq c 0)) (by rfl) ?_
  refine landed_step m ρ c 0 0 (k0_off11_eq c 0) ?_
  refine wait_step m ρ K c 1 0 1 (h10 _) (sem2_eq _ 0 (k0_off1_eq c 1)) (by rfl) ?_
  refine landed_step m ρ c 0 1 (k0_off11_eq c 1) ?_
  exact h _

theorem part10 (a : BitVec 32) (v : FVec F S32x512 .f32) (x : BitVec 32) {O₁ : CellTallies nD τ sig Unit} {R₁ : sProp 𝕄}
    {k} (h10 : ∀ j, Above (lvOf (.dma (semK 1 j 0))) O₁)
    (h : ∀ q : BitVec 32, stW m ρ K c 1 0 4 O₁ R₁ ⊢ wpc c (k ⟨k0_pay3 v (rd m ρ c 0 2) (rd m ρ c 0 3), q⟩) Q) :
    stW m ρ K c 1 0 2 O₁ R₁ ⊢ wpc c (k0_part10 (F := F) pBuf (Memref.isWhole_whole _) xBuf (Memref.isWhole_whole _) gBuf (Memref.isWhole_whole _) oBuf (Memref.isWhole_whole _) rBuf (Memref.isWhole_whole _) cc0_scratch1 cc0_scratch2 cc0_scratch3 cc0_scratch4 c a v x >>= k) Q := by
  rw [k0_part10_eq_skeleton]
  simp only [k0_part10_skel, semSignalWord, semWaitWord, Prog.lift, Prog.bind_op, Prog.bind_ret, Prog.pure_eq_ret]
  refine wait_step m ρ K c 1 0 2 (h10 _) (sem2_eq _ 0 (k0_off1_eq c 2)) (by rfl) ?_
  refine landed_step m ρ c 0 2 (k0_off11_eq c 2) ?_
  refine wait_step m ρ K c 1 0 3 (h10 _) (sem2_eq _ 0 (k0_off1_eq c 3)) (by rfl) ?_
  refine landed_step m ρ c 0 3 (k0_off11_eq c 3) ?_
  exact h _

theorem part11 (a : BitVec 32) (v : FVec F S32x512 .f32) (x : BitVec 32) {O₁ : CellTallies nD τ sig Unit} {R₁ : sProp 𝕄}
    {k} (h10 : ∀ j, Above (lvOf (.dma (semK 1 j 0))) O₁)
    (h : stW m ρ K c 1 0 7 O₁ R₁ ⊢ wpc c (k ⟨k0_pay4 v (rd m ρ c 0 4) (rd m ρ c 0 5), k0_pay5 (rd m ρ c 0 6)⟩) Q) :
    stW m ρ K c 1 0 4 O₁ R₁ ⊢ wpc c (k0_part11 (F := F) pBuf (Memref.isWhole_whole _) xBuf (Memref.isWhole_whole _) gBuf (Memref.isWhole_whole _) oBuf (Memref.isWhole_whole _) rBuf (Memref.isWhole_whole _) cc0_scratch1 cc0_scratch2 cc0_scratch3 cc0_scratch4 c a v x >>= k) Q := by
  rw [k0_part11_eq_skeleton]
  simp only [k0_part11_skel, semSignalWord, semWaitWord, Prog.lift, Prog.bind_op, Prog.bind_ret, Prog.pure_eq_ret]
  refine wait_step m ρ K c 1 0 4 (h10 _) (sem2_eq _ 0 (k0_off1_eq c 4)) (by rfl) ?_
  refine landed_step m ρ c 0 4 (k0_off11_eq c 4) ?_
  refine wait_step m ρ K c 1 0 5 (h10 _) (sem2_eq _ 0 (k0_off1_eq c 5)) (by rfl) ?_
  refine landed_step m ρ c 0 5 (k0_off11_eq c 5) ?_
  refine wait_step m ρ K c 1 0 6 (h10 _) (sem2_eq _ 0 (k0_off1_eq c 6)) (by rfl) ?_
  refine landed_step m ρ c 0 6 (k0_off11_eq c 6) ?_
  exact h

theorem part12 (a : BitVec 32) (x : BitVec 32) (v : FVec F S32x512 .f32) (w : FVec F S32x512 .f32) {O₁ O₂ : CellTallies nD τ sig Unit} {R₁ R₂ : sProp 𝕄}
    {k} (e1 : iprop(base m ρ K c O₁ ∗ oPts c c 0 fullShare (outFull m ρ) ∗ R₁) ⊢ stQ m ρ K c 0 0 O₂ R₂) (hv : k0_pay6 v w (gam m ρ c) = rows m ρ c 0)
    (h : stQ m ρ K c 0 1 O₂ R₂ ⊢ wpc c (k ⟨⟩) Q) :
    iprop(base m ρ K c O₁ ∗ (∃ f, oPts c c 0 fullShare f) ∗ R₁) ⊢ wpc c (k0_part12 (F := F) pBuf (Memref.isWhole_whole _) xBuf (Memref.isWhole_whole _) gBuf (Memref.isWhole_whole _) oBuf (Memref.isWhole_whole _) rBuf (Memref.isWhole_whole _) cc0_scratch1 cc0_scratch2 cc0_scratch3 cc0_scratch4 c a x v w >>= k) Q := by
  rw [k0_part12_eq_skeleton]
  simp only [k0_part12_skel, semSignalWord, semWaitWord, Prog.lift, Prog.bind_op, Prog.bind_ret, Prog.pure_eq_ret]
  refine gam_step m ρ K c ?_
  refine dead_step c 0 (k0_off9_eq c 0) fun _ => ?_
  refine store_step m ρ c 0 (k0_off9_eq c 0) hv ?_
  refine BIBase.Entails.trans e1 ?_
  refine send2_step m ρ K c 0 0 (Fin.ext (k0_dev22_eq c)) (k0_off12_eq c 0) (k0_off1_eq c 0) (k0_off2_eq c) ?_
  exact h

theorem part13 (a : BitVec 32) {O₁ : CellTallies nD τ sig Unit} {R₁ : sProp 𝕄}
    {k}
    (h : ∀ p : BitVec 32, stQ m ρ K c 0 5 O₁ R₁ ⊢ wpc c (k (p)) Q) :
    stQ m ρ K c 0 1 O₁ R₁ ⊢ wpc c (k0_part13 (F := F) pBuf (Memref.isWhole_whole _) xBuf (Memref.isWhole_whole _) gBuf (Memref.isWhole_whole _) oBuf (Memref.isWhole_whole _) rBuf (Memref.isWhole_whole _) cc0_scratch1 cc0_scratch2 cc0_scratch3 cc0_scratch4 c a >>= k) Q := by
  rw [k0_part13_eq_skeleton]
  simp only [k0_part13_skel, semSignalWord, semWaitWord, Prog.lift, Prog.bind_op, Prog.bind_ret, Prog.pure_eq_ret]
  refine send2_step m ρ K c 0 1 (Fin.ext (k0_dev23_eq c)) (k0_off12_eq c 0) (k0_off1_eq c 1) (k0_off2_eq c) ?_
  refine send2_step m ρ K c 0 2 (Fin.ext (k0_dev24_eq c)) (k0_off12_eq c 0) (k0_off1_eq c 2) (k0_off2_eq c) ?_
  refine send2_step m ρ K c 0 3 (Fin.ext (k0_dev25_eq c)) (k0_off12_eq c 0) (k0_off1_eq c 3) (k0_off2_eq c) ?_
  refine send2_step m ρ K c 0 4 (Fin.ext (k0_dev26_eq c)) (k0_off12_eq c 0) (k0_off1_eq c 4) (k0_off2_eq c) ?_
  exact h _

theorem part14 (a : BitVec 32) (x : BitVec 32) {O₁ O₂ : CellTallies nD τ sig Unit} {R₁ R₂ : sProp 𝕄}
    {k} (e1 : stQ m ρ K c 0 7 O₁ R₁ ⊢ iprop(base m ρ K c O₂ ∗ R₂))
    (h : ∀ p r s t : BitVec 32, iprop(base m ρ K c O₂ ∗ R₂) ⊢ wpc c (k ⟨p, k0_pay7 (ownP m ρ c 1) (ownR m ρ c 1), r, s, t⟩) Q) :
    stQ m ρ K c 0 5 O₁ R₁ ⊢ wpc c (k0_part14 (F := F) pBuf (Memref.isWhole_whole _) xBuf (Memref.isWhole_whole _) gBuf (Memref.isWhole_whole _) oBuf (Memref.isWhole_whole _) rBuf (Memref.isWhole_whole _) cc0_scratch1 cc0_scratch2 cc0_scratch3 cc0_scratch4 c a x >>= k) Q := by
  rw [k0_part14_eq_skeleton]
  simp only [k0_part14_skel, semSignalWord, semWaitWord, Prog.lift, Prog.bind_op, Prog.bind_ret, Prog.pure_eq_ret]
  refine send2_step m ρ K c 0 5 (Fin.ext (k0_dev27_eq c)) (k0_off12_eq c 0) (k0_off1_eq c 5) (k0_off2_eq c) ?_
  refine send2_step m ρ K c 0 6 (Fin.ext (k0_dev28_eq c)) (k0_off12_eq c 0) (k0_off1_eq c 6) (k0_off2_eq c) ?_
  refine BIBase.Entails.trans e1 ?_
  refine ownP_step m ρ K c 1 (k0_off8_eq c 1) ?_
  refine ownR_step m ρ K c 1 (k0_off9_eq c 1) ?_
  exact h _ _ _ _

theorem part15 (a : BitVec 32) (v : FVec F S32x512 .f32) (x : BitVec 32) (y : BitVec 32) (z : BitVec 32) {O₁ : CellTallies nD τ sig Unit} {R₁ : sProp 𝕄}
    {k} (h11 : ∀ j, Above (lvOf (.dma (semK 1 j 1))) O₁)
    (h : ∀ q : BitVec 32, stW m ρ K c 1 1 2 O₁ R₁ ⊢ wpc c (k ⟨k0_pay8 v (rd m ρ c 1 0) (rd m ρ c 1 1), q⟩) Q) :
    stW m ρ K c 1 1 0 O₁ R₁ ⊢ wpc c (k0_part15 (F := F) pBuf (Memref.isWhole_whole _) xBuf (Memref.isWhole_whole _) gBuf (Memref.isWhole_whole _) oBuf (Memref.isWhole_whole _) rBuf (Memref.isWhole_whole _) cc0_scratch1 cc0_scratch2 cc0_scratch3 cc0_scratch4 c a v x y z >>= k) Q := by
  rw [k0_part15_eq_skeleton]
  simp only [k0_part15_skel, semSignalWord, semWaitWord, Prog.lift, Prog.bind_op, Prog.bind_ret, Prog.pure_eq_ret]
  refine wait_step m ρ K c 1 1 0 (h11 _) (sem2_eq _ 1 (k0_off5_eq c 0)) (by rfl) ?_
  refine landed_step m ρ c 1 0 (k0_off14_eq c 0) ?_
  refine wait_step m ρ K c 1 1 1 (h11 _) (sem2_eq _ 1 (k0_off5_eq c 1)) (by rfl) ?_
  refine landed_step m ρ c 1 1 (k0_off14_eq c 1) ?_
  exact h _

theorem part16 (a : BitVec 32) (v : FVec F S32x512 .f32) (x : BitVec 32) {O₁ : CellTallies nD τ sig Unit} {R₁ : sProp 𝕄}
    {k} (h11 : ∀ j, Above (lvOf (.dma (semK 1 j 1))) O₁)
    (h : ∀ q : BitVec 32, stW m ρ K c 1 1 5 O₁ R₁ ⊢ wpc c (k ⟨k0_pay9 v (rd m ρ c 1 2) (rd m ρ c 1 3), q⟩) Q) :
    stW m ρ K c 1 1 2 O₁ R₁ ⊢ wpc c (k0_part16 (F := F) pBuf (Memref.isWhole_whole _) xBuf (Memref.isWhole_whole _) gBuf (Memref.isWhole_whole _) oBuf (Memref.isWhole_whole _) rBuf (Memref.isWhole_whole _) cc0_scratch1 cc0_scratch2 cc0_scratch3 cc0_scratch4 c a v x >>= k) Q := by
  rw [k0_part16_eq_skeleton]
  simp only [k0_part16_skel, semSignalWord, semWaitWord, Prog.lift, Prog.bind_op, Prog.bind_ret, Prog.pure_eq_ret]
  refine wait_step m ρ K c 1 1 2 (h11 _) (sem2_eq _ 1 (k0_off5_eq c 2)) (by rfl) ?_
  refine landed_step m ρ c 1 2 (k0_off14_eq c 2) ?_
  refine wait_step m ρ K c 1 1 3 (h11 _) (sem2_eq _ 1 (k0_off5_eq c 3)) (by rfl) ?_
  refine landed_step m ρ c 1 3 (k0_off14_eq c 3) ?_
  refine wait_step m ρ K c 1 1 4 (h11 _) (sem2_eq _ 1 (k0_off5_eq c 4)) (by rfl) ?_
  exact h _

theorem part17 (a : BitVec 32) (v : FVec F S32x512 .f32) (x : BitVec 32) {O₁ : CellTallies nD τ sig Unit} {R₁ : sProp 𝕄}
    {k} (h11 : ∀ j, Above (lvOf (.dma (semK 1 j 1))) O₁)
    (h : stW m ρ K c 1 1 7 O₁ R₁ ⊢ wpc c (k (k0_pay10 v (rd m ρ c 1 4) (rd m ρ c 1 5) (rd m ρ c 1 6))) Q) :
    stW m ρ K c 1 1 5 O₁ R₁ ⊢ wpc c (k0_part17 (F := F) pBuf (Memref.isWhole_whole _) xBuf (Memref.isWhole_whole _) gBuf (Memref.isWhole_whole _) oBuf (Memref.isWhole_whole _) rBuf (Memref.isWhole_whole _) cc0_scratch1 cc0_scratch2 cc0_scratch3 cc0_scratch4 c a v x >>= k) Q := by
  rw [k0_part17_eq_skeleton]
  simp only [k0_part17_skel, semSignalWord, semWaitWord, Prog.lift, Prog.bind_op, Prog.bind_ret, Prog.pure_eq_ret]
  refine landed_step m ρ c 1 4 (k0_off14_eq c 4) ?_
  refine wait_step m ρ K c 1 1 5 (h11 _) (sem2_eq _ 1 (k0_off5_eq c 5)) (by rfl) ?_
  refine landed_step m ρ c 1 5 (k0_off14_eq c 5) ?_
  refine wait_step m ρ K c 1 1 6 (h11 _) (sem2_eq _ 1 (k0_off5_eq c 6)) (by rfl) ?_
  refine landed_step m ρ c 1 6 (k0_off14_eq c 6) ?_
  exact h

theorem part18 (a : BitVec 32) (x : BitVec 32) (v : FVec F S32x512 .f32) {O₁ O₂ : CellTallies nD τ sig Unit} {R₁ R₂ : sProp 𝕄}
    {k} (e1 : iprop(base m ρ K c O₁ ∗ oPts c c 1 fullShare (outFull m ρ) ∗ R₁) ⊢ stQ m ρ K c 1 0 O₂ R₂) (hv : k0_pay11 v (gam m ρ c) = rows m ρ c 1)
    (h : stQ m ρ K c 1 1 O₂ R₂ ⊢ wpc c (k ⟨⟩) Q) :
    iprop(base m ρ K c O₁ ∗ (∃ f, oPts c c 1 fullShare f) ∗ R₁) ⊢ wpc c (k0_part18 (F := F) pBuf (Memref.isWhole_whole _) xBuf (Memref.isWhole_whole _) gBuf (Memref.isWhole_whole _) oBuf (Memref.isWhole_whole _) rBuf (Memref.isWhole_whole _) cc0_scratch1 cc0_scratch2 cc0_scratch3 cc0_scratch4 c a x v >>= k) Q := by
  rw [k0_part18_eq_skeleton]
  simp only [k0_part18_skel, semSignalWord, semWaitWord, Prog.lift, Prog.bind_op, Prog.bind_ret, Prog.pure_eq_ret]
  refine gam_step m ρ K c ?_
  refine dead_step c 1 (k0_off9_eq c 1) fun _ => ?_
  refine store_step m ρ c 1 (k0_off9_eq c 1) hv ?_
  refine BIBase.Entails.trans e1 ?_
  refine send2_step m ρ K c 1 0 (Fin.ext (k0_dev29_eq c)) (k0_off12_eq c 1) (k0_off5_eq c 0) (k0_off6_eq c) ?_
  exact h

theorem part19 (a : BitVec 32) {O₁ : CellTallies nD τ sig Unit} {R₁ : sProp 𝕄}
    {k}
    (h : ∀ p : BitVec 32, stQ m ρ K c 1 5 O₁ R₁ ⊢ wpc c (k (p)) Q) :
    stQ m ρ K c 1 1 O₁ R₁ ⊢ wpc c (k0_part19 (F := F) pBuf (Memref.isWhole_whole _) xBuf (Memref.isWhole_whole _) gBuf (Memref.isWhole_whole _) oBuf (Memref.isWhole_whole _) rBuf (Memref.isWhole_whole _) cc0_scratch1 cc0_scratch2 cc0_scratch3 cc0_scratch4 c a >>= k) Q := by
  rw [k0_part19_eq_skeleton]
  simp only [k0_part19_skel, semSignalWord, semWaitWord, Prog.lift, Prog.bind_op, Prog.bind_ret, Prog.pure_eq_ret]
  refine send2_step m ρ K c 1 1 (Fin.ext (k0_dev30_eq c)) (k0_off12_eq c 1) (k0_off5_eq c 1) (k0_off6_eq c) ?_
  refine send2_step m ρ K c 1 2 (Fin.ext (k0_dev31_eq c)) (k0_off12_eq c 1) (k0_off5_eq c 2) (k0_off6_eq c) ?_
  refine send2_step m ρ K c 1 3 (Fin.ext (k0_dev32_eq c)) (k0_off12_eq c 1) (k0_off5_eq c 3) (k0_off6_eq c) ?_
  refine send2_step m ρ K c 1 4 (Fin.ext (k0_dev33_eq c)) (k0_off12_eq c 1) (k0_off5_eq c 4) (k0_off6_eq c) ?_
  exact h _

theorem part20 (a : BitVec 32) (x : BitVec 32) {O₁ : CellTallies nD τ sig Unit} {R₁ : sProp 𝕄}
    {k}
    (h : stQ m ρ K c 1 7 O₁ R₁ ⊢ wpc c (k ⟨⟩) Q) :
    stQ m ρ K c 1 5 O₁ R₁ ⊢ wpc c (k0_part20 (F := F) pBuf (Memref.isWhole_whole _) xBuf (Memref.isWhole_whole _) gBuf (Memref.isWhole_whole _) oBuf (Memref.isWhole_whole _) rBuf (Memref.isWhole_whole _) cc0_scratch1 cc0_scratch2 cc0_scratch3 cc0_scratch4 c a x >>= k) Q := by
  rw [k0_part20_eq_skeleton]
  simp only [k0_part20_skel, semSignalWord, semWaitWord, Prog.lift, Prog.bind_op, Prog.bind_ret, Prog.pure_eq_ret]
  refine send2_step m ρ K c 1 5 (Fin.ext (k0_dev34_eq c)) (k0_off12_eq c 1) (k0_off5_eq c 5) (k0_off6_eq c) ?_
  refine send2_step m ρ K c 1 6 (Fin.ext (k0_dev35_eq c)) (k0_off12_eq c 1) (k0_off5_eq c 6) (k0_off6_eq c) ?_
  exact h

end Parts

end Cert.Exchange

end

end
-- ==== Proof.Parts3.lean ====
/-
The waits for the second phase's rows and for the transfers sent, as the program groups them.
-/
module

public import proofs.«01_k».proof.Proof.Parts1

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

section Parts

variable (K : Dev nD × CK → ℕ) (c : Dev nD) {Q : PUnit → sProp (MT nD τ sig Unit (Elt F) ℕ UU ℕ)}

theorem part21 (a : BitVec 32) {O₁ : CellTallies nD τ sig Unit} {R₁ : sProp 𝕄}
    {k} (h30 : ∀ j, Above (lvOf (.dma (semK 3 j 0))) O₁)
    (h : ∀ p q : BitVec 32, stW m ρ K c 3 0 3 O₁ R₁ ⊢ wpc c (k ⟨p, q⟩) Q) :
    stW m ρ K c 3 0 0 O₁ R₁ ⊢ wpc c (k0_part21 (F := F) pBuf (Memref.isWhole_whole _) xBuf (Memref.isWhole_whole _) gBuf (Memref.isWhole_whole _) oBuf (Memref.isWhole_whole _) rBuf (Memref.isWhole_whole _) cc0_scratch1 cc0_scratch2 cc0_scratch3 cc0_scratch4 c a >>= k) Q := by
  rw [k0_part21_eq_skeleton]
  simp only [k0_part21_skel, semSignalWord, semWaitWord, Prog.lift, Prog.bind_op, Prog.bind_ret, Prog.pure_eq_ret]
  refine wait_step m ρ K c 3 0 0 (h30 _) (sem4_eq _ 0 (k0_off1_eq c 0)) (by rfl) ?_
  refine wait_step m ρ K c 3 0 1 (h30 _) (sem4_eq _ 0 (k0_off1_eq c 1)) (by rfl) ?_
  refine wait_step m ρ K c 3 0 2 (h30 _) (sem4_eq _ 0 (k0_off1_eq c 2)) (by rfl) ?_
  exact h _ _

theorem part22 (a : BitVec 32) (x : BitVec 32) (y : BitVec 32) {O₁ : CellTallies nD τ sig Unit} {R₁ : sProp 𝕄}
    {k} (h30 : ∀ j, Above (lvOf (.dma (semK 3 j 0))) O₁)
    (h : stW m ρ K c 3 0 5 O₁ R₁ ⊢ wpc c (k ⟨⟩) Q) :
    stW m ρ K c 3 0 3 O₁ R₁ ⊢ wpc c (k0_part22 (F := F) pBuf (Memref.isWhole_whole _) xBuf (Memref.isWhole_whole _) gBuf (Memref.isWhole_whole _) oBuf (Memref.isWhole_whole _) rBuf (Memref.isWhole_whole _) cc0_scratch1 cc0_scratch2 cc0_scratch3 cc0_scratch4 c a x y >>= k) Q := by
  rw [k0_part22_eq_skeleton]
  simp only [k0_part22_skel, semSignalWord, semWaitWord, Prog.lift, Prog.bind_op, Prog.bind_ret, Prog.pure_eq_ret]
  refine wait_step m ρ K c 3 0 3 (h30 _) (sem4_eq _ 0 (k0_off1_eq c 3)) (by rfl) ?_
  refine wait_step m ρ K c 3 0 4 (h30 _) (sem4_eq _ 0 (k0_off1_eq c 4)) (by rfl) ?_
  exact h

theorem part23 (a : BitVec 32) {O₁ O₂ : CellTallies nD τ sig Unit} {R₁ R₂ : sProp 𝕄}
    {k} (h30 : ∀ j, Above (lvOf (.dma (semK 3 j 0))) O₁) (e1 : stW m ρ K c 3 0 7 O₁ R₁ ⊢ stW m ρ K c 3 1 0 O₂ R₂) (h31 : ∀ j, Above (lvOf (.dma (semK 3 j 1))) O₂)
    (h : ∀ p : BitVec 32, stW m ρ K c 3 1 1 O₂ R₂ ⊢ wpc c (k (p)) Q) :
    stW m ρ K c 3 0 5 O₁ R₁ ⊢ wpc c (k0_part23 (F := F) pBuf (Memref.isWhole_whole _) xBuf (Memref.isWhole_whole _) gBuf (Memref.isWhole_whole _) oBuf (Memref.isWhole_whole _) rBuf (Memref.isWhole_whole _) cc0_scratch1 cc0_scratch2 cc0_scratch3 cc0_scratch4 c a >>= k) Q := by
  rw [k0_part23_eq_skeleton]
  simp only [k0_part23_skel, semSignalWord, semWaitWord, Prog.lift, Prog.bind_op, Prog.bind_ret, Prog.pure_eq_ret]
  refine wait_step m ρ K c 3 0 5 (h30 _) (sem4_eq _ 0 (k0_off1_eq c 5)) (by rfl) ?_
  refine wait_step m ρ K c 3 0 6 (h30 _) (sem4_eq _ 0 (k0_off1_eq c 6)) (by rfl) ?_
  refine BIBase.Entails.trans e1 ?_
  refine wait_step m ρ K c 3 1 0 (h31 _) (sem4_eq _ 1 (k0_off5_eq c 0)) (by rfl) ?_
  exact h _

theorem part24 (a : BitVec 32) (x : BitVec 32) {O₁ : CellTallies nD τ sig Unit} {R₁ : sProp 𝕄}
    {k} (h31 : ∀ j, Above (lvOf (.dma (semK 3 j 1))) O₁)
    (h : ∀ p : BitVec 32, stW m ρ K c 3 1 3 O₁ R₁ ⊢ wpc c (k (p)) Q) :
    stW m ρ K c 3 1 1 O₁ R₁ ⊢ wpc c (k0_part24 (F := F) pBuf (Memref.isWhole_whole _) xBuf (Memref.isWhole_whole _) gBuf (Memref.isWhole_whole _) oBuf (Memref.isWhole_whole _) rBuf (Memref.isWhole_whole _) cc0_scratch1 cc0_scratch2 cc0_scratch3 cc0_scratch4 c a x >>= k) Q := by
  rw [k0_part24_eq_skeleton]
  simp only [k0_part24_skel, semSignalWord, semWaitWord, Prog.lift, Prog.bind_op, Prog.bind_ret, Prog.pure_eq_ret]
  refine wait_step m ρ K c 3 1 1 (h31 _) (sem4_eq _ 1 (k0_off5_eq c 1)) (by rfl) ?_
  refine wait_step m ρ K c 3 1 2 (h31 _) (sem4_eq _ 1 (k0_off5_eq c 2)) (by rfl) ?_
  exact h _

theorem part25 (a : BitVec 32) (x : BitVec 32) {O₁ : CellTallies nD τ sig Unit} {R₁ : sProp 𝕄}
    {k} (h31 : ∀ j, Above (lvOf (.dma (semK 3 j 1))) O₁)
    (h : stW m ρ K c 3 1 5 O₁ R₁ ⊢ wpc c (k ⟨⟩) Q) :
    stW m ρ K c 3 1 3 O₁ R₁ ⊢ wpc c (k0_part25 (F := F) pBuf (Memref.isWhole_whole _) xBuf (Memref.isWhole_whole _) gBuf (Memref.isWhole_whole _) oBuf (Memref.isWhole_whole _) rBuf (Memref.isWhole_whole _) cc0_scratch1 cc0_scratch2 cc0_scratch3 cc0_scratch4 c a x >>= k) Q := by
  rw [k0_part25_eq_skeleton]
  simp only [k0_part25_skel, semSignalWord, semWaitWord, Prog.lift, Prog.bind_op, Prog.bind_ret, Prog.pure_eq_ret]
  refine wait_step m ρ K c 3 1 3 (h31 _) (sem4_eq _ 1 (k0_off5_eq c 3)) (by rfl) ?_
  refine wait_step m ρ K c 3 1 4 (h31 _) (sem4_eq _ 1 (k0_off5_eq c 4)) (by rfl) ?_
  exact h

theorem part26 (a : BitVec 32) {O₁ O₂ : CellTallies nD τ sig Unit} {R₁ R₂ : sProp 𝕄}
    {k} (h31 : ∀ j, Above (lvOf (.dma (semK 3 j 1))) O₁) (e1 : stW m ρ K c 3 1 7 O₁ R₁ ⊢ stW m ρ K c 0 0 0 O₂ R₂) (h00 : ∀ j, Above (lvOf (.dma (semK 0 j 0))) O₂)
    (h : stW m ρ K c 0 0 2 O₂ R₂ ⊢ wpc c (k ⟨⟩) Q) :
    stW m ρ K c 3 1 5 O₁ R₁ ⊢ wpc c (k0_part26 (F := F) pBuf (Memref.isWhole_whole _) xBuf (Memref.isWhole_whole _) gBuf (Memref.isWhole_whole _) oBuf (Memref.isWhole_whole _) rBuf (Memref.isWhole_whole _) cc0_scratch1 cc0_scratch2 cc0_scratch3 cc0_scratch4 c a >>= k) Q := by
  rw [k0_part26_eq_skeleton]
  simp only [k0_part26_skel, semSignalWord, semWaitWord, Prog.lift, Prog.bind_op, Prog.bind_ret, Prog.pure_eq_ret]
  refine wait_step m ρ K c 3 1 5 (h31 _) (sem4_eq _ 1 (k0_off5_eq c 5)) (by rfl) ?_
  refine wait_step m ρ K c 3 1 6 (h31 _) (sem4_eq _ 1 (k0_off5_eq c 6)) (by rfl) ?_
  refine BIBase.Entails.trans e1 ?_
  refine wait_step m ρ K c 0 0 0 (h00 _) (sem1_eq _ 0 (k0_off1_eq c 0)) (by rfl) ?_
  refine wait_step m ρ K c 0 0 1 (h00 _) (sem1_eq _ 0 (k0_off1_eq c 1)) (by rfl) ?_
  exact h

theorem part27  {O₁ : CellTallies nD τ sig Unit} {R₁ : sProp 𝕄}
    {k} (h00 : ∀ j, Above (lvOf (.dma (semK 0 j 0))) O₁)
    (h : stW m ρ K c 0 0 6 O₁ R₁ ⊢ wpc c (k ⟨⟩) Q) :
    stW m ρ K c 0 0 2 O₁ R₁ ⊢ wpc c (k0_part27 (F := F) pBuf (Memref.isWhole_whole _) xBuf (Memref.isWhole_whole _) gBuf (Memref.isWhole_whole _) oBuf (Memref.isWhole_whole _) rBuf (Memref.isWhole_whole _) cc0_scratch1 cc0_scratch2 cc0_scratch3 cc0_scratch4 c >>= k) Q := by
  rw [k0_part27_eq_skeleton]
  simp only [k0_part27_skel, semSignalWord, semWaitWord, Prog.lift, Prog.bind_op, Prog.bind_ret, Prog.pure_eq_ret]
  refine wait_step m ρ K c 0 0 2 (h00 _) (sem1_eq _ 0 (k0_off1_eq c 2)) (by rfl) ?_
  refine wait_step m ρ K c 0 0 3 (h00 _) (sem1_eq _ 0 (k0_off1_eq c 3)) (by rfl) ?_
  refine wait_step m ρ K c 0 0 4 (h00 _) (sem1_eq _ 0 (k0_off1_eq c 4)) (by rfl) ?_
  refine wait_step m ρ K c 0 0 5 (h00 _) (sem1_eq _ 0 (k0_off1_eq c 5)) (by rfl) ?_
  exact h

theorem part28  {O₁ O₂ : CellTallies nD τ sig Unit} {R₁ R₂ : sProp 𝕄}
    {k} (h00 : ∀ j, Above (lvOf (.dma (semK 0 j 0))) O₁) (e1 : stW m ρ K c 0 0 7 O₁ R₁ ⊢ stW m ρ K c 0 1 0 O₂ R₂) (h01 : ∀ j, Above (lvOf (.dma (semK 0 j 1))) O₂)
    (h : stW m ρ K c 0 1 4 O₂ R₂ ⊢ wpc c (k ⟨⟩) Q) :
    stW m ρ K c 0 0 6 O₁ R₁ ⊢ wpc c (k0_part28 (F := F) pBuf (Memref.isWhole_whole _) xBuf (Memref.isWhole_whole _) gBuf (Memref.isWhole_whole _) oBuf (Memref.isWhole_whole _) rBuf (Memref.isWhole_whole _) cc0_scratch1 cc0_scratch2 cc0_scratch3 cc0_scratch4 c >>= k) Q := by
  rw [k0_part28_eq_skeleton]
  simp only [k0_part28_skel, semSignalWord, semWaitWord, Prog.lift, Prog.bind_op, Prog.bind_ret, Prog.pure_eq_ret]
  refine wait_step m ρ K c 0 0 6 (h00 _) (sem1_eq _ 0 (k0_off1_eq c 6)) (by rfl) ?_
  refine BIBase.Entails.trans e1 ?_
  refine wait_step m ρ K c 0 1 0 (h01 _) (sem1_eq _ 1 (k0_off5_eq c 0)) (by rfl) ?_
  refine wait_step m ρ K c 0 1 1 (h01 _) (sem1_eq _ 1 (k0_off5_eq c 1)) (by rfl) ?_
  refine wait_step m ρ K c 0 1 2 (h01 _) (sem1_eq _ 1 (k0_off5_eq c 2)) (by rfl) ?_
  refine wait_step m ρ K c 0 1 3 (h01 _) (sem1_eq _ 1 (k0_off5_eq c 3)) (by rfl) ?_
  exact h

theorem part29  {O₁ O₂ : CellTallies nD τ sig Unit} {R₁ R₂ : sProp 𝕄}
    {k} (h01 : ∀ j, Above (lvOf (.dma (semK 0 j 1))) O₁) (e1 : stW m ρ K c 0 1 7 O₁ R₁ ⊢ stW m ρ K c 2 0 0 O₂ R₂) (h20 : ∀ j, Above (lvOf (.dma (semK 2 j 0))) O₂)
    (h : stW m ρ K c 2 0 1 O₂ R₂ ⊢ wpc c (k ⟨⟩) Q) :
    stW m ρ K c 0 1 4 O₁ R₁ ⊢ wpc c (k0_part29 (F := F) pBuf (Memref.isWhole_whole _) xBuf (Memref.isWhole_whole _) gBuf (Memref.isWhole_whole _) oBuf (Memref.isWhole_whole _) rBuf (Memref.isWhole_whole _) cc0_scratch1 cc0_scratch2 cc0_scratch3 cc0_scratch4 c >>= k) Q := by
  rw [k0_part29_eq_skeleton]
  simp only [k0_part29_skel, semSignalWord, semWaitWord, Prog.lift, Prog.bind_op, Prog.bind_ret, Prog.pure_eq_ret]
  refine wait_step m ρ K c 0 1 4 (h01 _) (sem1_eq _ 1 (k0_off5_eq c 4)) (by rfl) ?_
  refine wait_step m ρ K c 0 1 5 (h01 _) (sem1_eq _ 1 (k0_off5_eq c 5)) (by rfl) ?_
  refine wait_step m ρ K c 0 1 6 (h01 _) (sem1_eq _ 1 (k0_off5_eq c 6)) (by rfl) ?_
  refine BIBase.Entails.trans e1 ?_
  refine wait_step m ρ K c 2 0 0 (h20 _) (sem3_eq _ 0 (k0_off1_eq c 0)) (by rfl) ?_
  exact h

theorem part30  {O₁ : CellTallies nD τ sig Unit} {R₁ : sProp 𝕄}
    {k} (h20 : ∀ j, Above (lvOf (.dma (semK 2 j 0))) O₁)
    (h : stW m ρ K c 2 0 7 O₁ R₁ ⊢ wpc c (k ⟨⟩) Q) :
    stW m ρ K c 2 0 1 O₁ R₁ ⊢ wpc c (k0_part30 (F := F) pBuf (Memref.isWhole_whole _) xBuf (Memref.isWhole_whole _) gBuf (Memref.isWhole_whole _) oBuf (Memref.isWhole_whole _) rBuf (Memref.isWhole_whole _) cc0_scratch1 cc0_scratch2 cc0_scratch3 cc0_scratch4 c >>= k) Q := by
  rw [k0_part30_eq_skeleton]
  simp only [k0_part30_skel, semSignalWord, semWaitWord, Prog.lift, Prog.bind_op, Prog.bind_ret, Prog.pure_eq_ret]
  refine wait_step m ρ K c 2 0 1 (h20 _) (sem3_eq _ 0 (k0_off1_eq c 1)) (by rfl) ?_
  refine wait_step m ρ K c 2 0 2 (h20 _) (sem3_eq _ 0 (k0_off1_eq c 2)) (by rfl) ?_
  refine wait_step m ρ K c 2 0 3 (h20 _) (sem3_eq _ 0 (k0_off1_eq c 3)) (by rfl) ?_
  refine wait_step m ρ K c 2 0 4 (h20 _) (sem3_eq _ 0 (k0_off1_eq c 4)) (by rfl) ?_
  refine wait_step m ρ K c 2 0 5 (h20 _) (sem3_eq _ 0 (k0_off1_eq c 5)) (by rfl) ?_
  refine wait_step m ρ K c 2 0 6 (h20 _) (sem3_eq _ 0 (k0_off1_eq c 6)) (by rfl) ?_
  exact h

theorem part31  {O₁ : CellTallies nD τ sig Unit} {R₁ : sProp 𝕄}
    {k} (h21 : ∀ j, Above (lvOf (.dma (semK 2 j 1))) O₁)
    (h : stW m ρ K c 2 1 6 O₁ R₁ ⊢ wpc c (k ⟨⟩) Q) :
    stW m ρ K c 2 1 0 O₁ R₁ ⊢ wpc c (k0_part31 (F := F) pBuf (Memref.isWhole_whole _) xBuf (Memref.isWhole_whole _) gBuf (Memref.isWhole_whole _) oBuf (Memref.isWhole_whole _) rBuf (Memref.isWhole_whole _) cc0_scratch1 cc0_scratch2 cc0_scratch3 cc0_scratch4 c >>= k) Q := by
  rw [k0_part31_eq_skeleton]
  simp only [k0_part31_skel, semSignalWord, semWaitWord, Prog.lift, Prog.bind_op, Prog.bind_ret, Prog.pure_eq_ret]
  refine wait_step m ρ K c 2 1 0 (h21 _) (sem3_eq _ 1 (k0_off5_eq c 0)) (by rfl) ?_
  refine wait_step m ρ K c 2 1 1 (h21 _) (sem3_eq _ 1 (k0_off5_eq c 1)) (by rfl) ?_
  refine wait_step m ρ K c 2 1 2 (h21 _) (sem3_eq _ 1 (k0_off5_eq c 2)) (by rfl) ?_
  refine wait_step m ρ K c 2 1 3 (h21 _) (sem3_eq _ 1 (k0_off5_eq c 3)) (by rfl) ?_
  refine wait_step m ρ K c 2 1 4 (h21 _) (sem3_eq _ 1 (k0_off5_eq c 4)) (by rfl) ?_
  refine wait_step m ρ K c 2 1 5 (h21 _) (sem3_eq _ 1 (k0_off5_eq c 5)) (by rfl) ?_
  exact h

end Parts

end Cert.Exchange

end

end
-- ==== Proof.Flow.lean ====
/-
From one phase of the kernel to the next: how what a phase leaves makes up what the next one takes.
-/
module

public import proofs.«01_k».proof.Proof.Parts1

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

section Flow

variable (K : Dev nD × CK → ℕ) (c : Dev nD) {O : CellTallies nD τ sig Unit} {P D E E₀ E₁ E₂ E₃ R H I W W' H' : sProp (MT nD τ sig Unit (Elt F) ℕ UU ℕ)}

/-! ## What a phase's work items are made of -/

/-- For a first-phase transfer, all but the piece written over; -/
def half₁ (c : Dev nD) (s : Fin 2) (o : Fin 7) : sProp 𝕄 :=
  iprop(dutyTok ER (dCell c 0 (peer c o) s) 0 0 ∗ dutyTok ER (dCell (peer c o) 1 c s) 0 0 ∗ pPts m ρ c (peer c o) s)
/-- for a second-phase transfer, the two duties. -/
def half₂ (c : Dev nD) (s : Fin 2) (o : Fin 7) : sProp 𝕄 :=
  iprop(dutyTok ER (dCell c 2 (peer c o) s) 0 0 ∗ dutyTok ER (dCell (peer c o) 3 c s) 0 0)
/-- The pieces of the `o`-th other device written over: of its landing buffer, -/
def inR (c : Dev nD) (s : Fin 2) (o : Fin 7) : sProp 𝕄 := iprop(∃ f, rPts (peer c o) c s f)
/-- and of its result. -/
def inO (c : Dev nD) (s : Fin 2) (o : Fin 7) : sProp 𝕄 := iprop(∃ f, oPts (peer c o) c s fullShare f)

/-- The device's own rows of the result, before they are stored. -/
abbrev oOwn (c : Dev nD) (s : Fin 2) : sProp 𝕄 := iprop(∃ f, oPts c c s fullShare f)

omit [FloatOps F] in
theorem todo_sep (Φ Ψ : Fin 7 → sProp 𝕄) : (todo 0 fun o => iprop(Φ o ∗ Ψ o)) = iprop(todo 0 Φ ∗ todo 0 Ψ) := by
  rw [todo_zero, todo_zero, todo_zero]; exact bigSep_sep' _ _ _

theorem src₁_join (s : Fin 2) : iprop(todo 0 (half₁ m ρ c s) ∗ todo 0 (inR c s)) ⊢ todo 0 (src₁ m ρ c s) := by
  rw [← todo_sep, todo_zero, todo_zero]
  refine bigSep_mono fun o _ => ?_
  show iprop(half₁ m ρ c s o ∗ inR c s o) ⊢ src₁ m ρ c s o
  unfold half₁ inR src₁
  iintro ⟨⟨H1, H2, H3⟩, H4⟩
  isplitl [H1]; · iexact H1
  isplitl [H2]; · iexact H2
  isplitl [H3] <;> iassumption

theorem src₂_join (s : Fin 2) : iprop(todo 0 (half₂ c s) ∗ todo 0 (fun o => oPts c c s (shareTok fullShare 7 o) (outFull m ρ)) ∗ todo 0 (inO c s)) ⊢ todo 0 (src₂ m ρ c s) := by
  rw [← todo_sep, ← todo_sep, todo_zero, todo_zero]
  refine bigSep_mono fun o _ => ?_
  show iprop(half₂ c s o ∗ oPts c c s (shareTok fullShare 7 o) (outFull m ρ) ∗ inO c s o) ⊢ src₂ m ρ c s o
  unfold half₂ inO src₂
  iintro ⟨⟨H1, H2⟩, H3, H4⟩
  isplitl [H1]; · iexact H1
  isplitl [H2]; · iexact H2
  isplitl [H3] <;> iassumption

omit [FloatOps F] in
theorem wt_join (kd : Fin 4) (s : Fin 2) : iprop(done 7 (crd kd c s) ∗ todo 0 (pos kd c s)) ⊢ (todo 0 (wt kd c s) : sProp 𝕄) := by
  rw [done_seven, ← todo_zero, ← todo_sep]; exact BI.Entails.refl _

omit [FloatOps F] in
/-- The other devices, by place. -/
theorem erase_eq : (Finset.univ.erase c : Finset (Dev nD)) = (Finset.univ : Finset (Fin 7)).image (peer c) := by
  ext p
  simp only [Finset.mem_erase, Finset.mem_univ, and_true, Finset.mem_image, true_and]
  exact ⟨fun h => ⟨place c p, peer_place c p h⟩, fun ⟨o, ho⟩ => ho ▸ peer_ne c o⟩

omit [FloatOps F] in
theorem others_eq (Φ : Dev nD → sProp 𝕄) : bigSep (Finset.univ.erase c) Φ = todo 0 fun o => Φ (peer c o) := by
  rw [todo_zero, erase_eq, bigSep_image_of_injOn ((peer_injective c).injOn)]

omit [FloatOps F] in
/-- What the barrier wait gives, by kind. -/
theorem bar_split : (bigSep (Finset.univ.erase c) fun p => (barPay c p : sProp 𝕄))
    = iprop((todo 0 (inR c 0) ∗ todo 0 (inR c 1)) ∗ (todo 0 (inO c 0) ∗ todo 0 (inO c 1))) := by
  rw [others_eq, ← todo_sep, ← todo_sep, ← todo_sep]; rfl

/-- The rows stored, as the seven shares the transfers take and what is left. -/
theorem out_share (s : Fin 2) : oPts c c s fullShare (outFull m ρ)
    ⊢ iprop(oPts c c s (shareDrop fullShare 7) (outFull m ρ) ∗ todo 0 fun o => oPts c c s (shareTok fullShare 7 o) (outFull m ρ)) := by
  rw [todo_zero]; unfold oPts
  exact Transfers.pointsTo_toks_split fullShare 7

/-! ## From one phase to the next

What is held beside a phase's own is a list `P` of what later phases take, the waits `E₀ ∗ … ∗ E₃` for the transfers the
device itself starts, and what is finished, `D`. -/

theorem flow_bar : stS m ρ K c 7 O iprop(bar₀ c ∗ R) ⊢ iprop(base m ρ K c O ∗ bar₀ c ∗ R) := by
  unfold stS; rw [todo_seven, osum_seven, zero_add]
  iintro ⟨HB, -, Hb, HR⟩
  isplitl [HB]; · iexact HB
  isplitl [Hb] <;> iassumption

theorem flow_first : iprop(base m ρ K c (O₁ c) ∗ bar₁ c ∗ ((todo 0 (half₁ m ρ c 0) ∗ todo 0 (half₁ m ρ c 1) ∗ W ∗ H ∗ W' ∗ H' ∗ P) ∗ E ∗ D))
    ⊢ stP m ρ K c 0 0 (osum 0 (t1 c 1) + O₂ c) iprop((todo 0 (src₁ m ρ c 1) ∗ W ∗ (H ∗ todo 0 (inO c 0)) ∗ W' ∗ (H' ∗ todo 0 (inO c 1)) ∗ P) ∗ E ∗ (semVal (barCell c) 0 ∗ D)) := by
  unfold stP bar₁; rw [bar_split, done_zero]; unfold O₁
  iintro ⟨HB, ⟨Hz, ⟨HR0, HR1⟩, HO0, HO1⟩, ⟨Hh0, Hh1, HW, HH, HW', HH', HP⟩, HE, HD⟩
  isplitl [HB]; · iexact HB
  isplitl [Hh0 HR0]; · iapply (src₁_join m ρ c 0); isplitl [Hh0] <;> iassumption
  isplitl []; · iempintro
  isplitr [HE HD Hz]
  · isplitl [Hh1 HR1]; · iapply (src₁_join m ρ c 1); isplitl [Hh1] <;> iassumption
    isplitl [HW]; · iexact HW
    isplitl [HH HO0]; · isplitl [HH] <;> iassumption
    isplitl [HW']; · iexact HW'
    isplitl [HH' HO1]; · isplitl [HH'] <;> iassumption
    iexact HP
  isplitl [HE]; · iexact HE
  isplitl [Hz] <;> iassumption

theorem flow_half : stP m ρ K c 0 7 (osum 0 (t1 c 1) + O) iprop((todo 0 (src₁ m ρ c 1) ∗ P) ∗ (todo 0 (pos 0 c 0) ∗ E) ∗ D)
    ⊢ stP m ρ K c 1 0 O iprop(P ∗ (todo 0 (wt 0 c 0) ∗ E) ∗ D) := by
  unfold stP; rw [osum_seven, zero_add, todo_seven, done_zero]
  iintro ⟨HB, -, Hc, ⟨Hs, HP⟩, ⟨Hp, HE⟩, HD⟩
  isplitl [HB]; · iexact HB
  isplitl [Hs]; · iexact Hs
  isplitl []; · iempintro
  isplitl [HP]; · iexact HP
  isplitr [HD]
  · isplitl [Hc Hp]; · iapply (wt_join c 0 0); isplitl [Hc] <;> iassumption
    iexact HE
  iexact HD

theorem flow_sent : stP m ρ K c 1 7 (O₂ c) iprop(P ∗ (E₀ ∗ todo 0 (pos 0 c 1) ∗ E) ∗ D)
    ⊢ iprop(base m ρ K c (osum 0 (t2 c 0) + (osum 0 (t2 c 1) + 0)) ∗ (P ∗ (E₀ ∗ todo 0 (wt 0 c 1) ∗ E) ∗ D)) := by
  unfold stP; rw [osum_seven, zero_add, todo_seven, add_zero]; unfold O₂
  iintro ⟨HB, -, Hc, HP, ⟨HE0, Hp, HE⟩, HD⟩
  isplitl [HB]; · iexact HB
  isplitl [HP]; · iexact HP
  isplitr [HD]
  · isplitl [HE0]; · iexact HE0
    isplitl [Hc Hp]; · iapply (wt_join c 0 1); isplitl [Hc] <;> iassumption
    iexact HE
  iexact HD

theorem flow_recv (s : Fin 2) : iprop(base m ρ K c O ∗ ((todo 0 (wt 1 c s) ∗ P) ∗ E ∗ D)) ⊢ stW m ρ K c 1 s 0 O iprop(P ∗ E ∗ D) := by
  unfold stW; rw [done_zero]
  iintro ⟨HB, ⟨Hw, HP⟩, HE, HD⟩
  isplitl [HB]; · iexact HB
  isplitl [Hw]; · iexact Hw
  isplitl []; · iempintro
  isplitl [HP]; · iexact HP
  isplitl [HE] <;> iassumption

theorem flow_rows (s : Fin 2) : stW m ρ K c 1 s 7 O iprop((((H ∗ oOwn c s) ∗ I) ∗ P) ∗ E ∗ D)
    ⊢ iprop(base m ρ K c O ∗ (∃ f, oPts c c s fullShare f) ∗ (((H ∗ I) ∗ P) ∗ E ∗ (done 7 (wd m ρ 1 c s) ∗ D))) := by
  unfold stW; rw [todo_seven]
  iintro ⟨HB, -, Hd, ⟨⟨⟨HH, Ho⟩, HI⟩, HP⟩, HE, HD⟩
  isplitl [HB]; · iexact HB
  isplitl [Ho]; · iexact Ho
  isplitl [HH HI HP]; · isplitl [HH HI]; · isplitl [HH] <;> iassumption
                        iexact HP
  isplitl [HE]; · iexact HE
  isplitl [Hd] <;> iassumption

theorem flow_second (s : Fin 2) : iprop(base m ρ K c (osum 0 (t2 c s) + O) ∗ oPts c c s fullShare (outFull m ρ) ∗ (((todo 0 (half₂ c s) ∗ todo 0 (inO c s)) ∗ P) ∗ E ∗ D))
    ⊢ stQ m ρ K c s 0 O iprop(P ∗ E ∗ (oPts c c s (shareDrop fullShare 7) (outFull m ρ) ∗ D)) := by
  unfold stQ; rw [done_zero]
  iintro ⟨HB, Ho, ⟨⟨Hh, HI⟩, HP⟩, HE, HD⟩
  ihave Ho := (out_share m ρ c s) $$ Ho
  icases Ho with ⟨Hd, Ht⟩
  isplitl [HB]; · iexact HB
  isplitl [Hh HI Ht]
  · iapply (src₂_join m ρ c s)
    isplitl [Hh]; · iexact Hh
    isplitl [Ht] <;> iassumption
  isplitl []; · iempintro
  isplitl [HP]; · iexact HP
  isplitl [HE]; · iexact HE
  isplitl [Hd] <;> iassumption

theorem flow_sent₀ : stQ m ρ K c 0 7 O iprop(P ∗ (E₀ ∗ E₁ ∗ todo 0 (pos 2 c 0) ∗ E) ∗ D)
    ⊢ iprop(base m ρ K c O ∗ (P ∗ (E₀ ∗ E₁ ∗ todo 0 (wt 2 c 0) ∗ E) ∗ D)) := by
  unfold stQ; rw [osum_seven, zero_add, todo_seven]
  iintro ⟨HB, -, Hc, HP, ⟨HE0, HE1, Hp, HE⟩, HD⟩
  isplitl [HB]; · iexact HB
  isplitl [HP]; · iexact HP
  isplitr [HD]
  · isplitl [HE0]; · iexact HE0
    isplitl [HE1]; · iexact HE1
    isplitl [Hc Hp]; · iapply (wt_join c 2 0); isplitl [Hc] <;> iassumption
    iexact HE
  iexact HD

theorem flow_sent₁ : stQ m ρ K c 1 7 O iprop((todo 0 (wt 3 c 0) ∗ P) ∗ (E₀ ∗ E₁ ∗ E₂ ∗ todo 0 (pos 2 c 1) ∗ E) ∗ D)
    ⊢ stW m ρ K c 3 0 0 O iprop(P ∗ (E₀ ∗ E₁ ∗ E₂ ∗ todo 0 (wt 2 c 1) ∗ E) ∗ D) := by
  unfold stQ stW; rw [osum_seven, zero_add, todo_seven, done_zero]
  iintro ⟨HB, -, Hc, ⟨Hw, HP⟩, ⟨HE0, HE1, HE2, Hp, HE⟩, HD⟩
  isplitl [HB]; · iexact HB
  isplitl [Hw]; · iexact Hw
  isplitl []; · iempintro
  isplitl [HP]; · iexact HP
  isplitr [HD]
  · isplitl [HE0]; · iexact HE0
    isplitl [HE1]; · iexact HE1
    isplitl [HE2]; · iexact HE2
    isplitl [Hc Hp]; · iapply (wt_join c 2 1); isplitl [Hc] <;> iassumption
    iexact HE
  iexact HD

/-- From one group of waits to the next, taken from `P`, -/
theorem flow_wait (kd kd' : Fin 4) (s s' : Fin 2) : stW m ρ K c kd s 7 O iprop((todo 0 (wt kd' c s') ∗ P) ∗ E ∗ D)
    ⊢ stW m ρ K c kd' s' 0 O iprop(P ∗ E ∗ (done 7 (wd m ρ kd c s) ∗ D)) := by
  unfold stW; rw [todo_seven, done_zero]
  iintro ⟨HB, -, Hd, ⟨Hw, HP⟩, HE, HD⟩
  isplitl [HB]; · iexact HB
  isplitl [Hw]; · iexact Hw
  isplitl []; · iempintro
  isplitl [HP]; · iexact HP
  isplitl [HE]; · iexact HE
  isplitl [Hd] <;> iassumption

/-- or from the waits for what the device sent. -/
theorem flow_wait' (kd kd' : Fin 4) (s s' : Fin 2) : stW m ρ K c kd s 7 O iprop(P ∗ (todo 0 (wt kd' c s') ∗ E) ∗ D)
    ⊢ stW m ρ K c kd' s' 0 O iprop(P ∗ E ∗ (done 7 (wd m ρ kd c s) ∗ D)) := by
  unfold stW; rw [todo_seven, done_zero]
  iintro ⟨HB, -, Hd, HP, ⟨Hw, HE⟩, HD⟩
  isplitl [HB]; · iexact HB
  isplitl [Hw]; · iexact Hw
  isplitl []; · iempintro
  isplitl [HP]; · iexact HP
  isplitl [HE]; · iexact HE
  isplitl [Hd] <;> iassumption

end Flow

end Cert.Exchange

end

end
-- ==== Proof.Body.lean ====
/-
The kernel's body on one device: the phases in order.
-/
module

public import proofs.«01_k».proof.Proof.Parts2
public import proofs.«01_k».proof.Proof.Parts3
public import proofs.«01_k».proof.Proof.Flow

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

section Run

variable (K : Dev nD × CK → ℕ) (c : Dev nD) {P D : sProp (MT nD τ sig Unit (Elt F) ℕ UU ℕ)}

/-- What later phases take, at the start; -/
def pend (c : Dev nD) (P : sProp 𝕄) : sProp 𝕄 :=
  iprop(todo 0 (half₁ m ρ c 0) ∗ todo 0 (half₁ m ρ c 1) ∗ todo 0 (wt 1 c 0) ∗ (todo 0 (half₂ c 0) ∗ oOwn c 0)
    ∗ todo 0 (wt 1 c 1) ∗ (todo 0 (half₂ c 1) ∗ oOwn c 1) ∗ (todo 0 (wt 3 c 0) ∗ todo 0 (wt 3 c 1) ∗ P))
/-- the positions of the waits for what the device sends; -/
def poss (c : Dev nD) : sProp 𝕄 := iprop(todo 0 (pos 0 c 0) ∗ todo 0 (pos 0 c 1) ∗ todo 0 (pos 2 c 0) ∗ todo 0 (pos 2 c 1) ∗ emp)
/-- and what the seven waits of every group gave, with what is left of the stored rows, at the end. -/
def fini (c : Dev nD) (D : sProp 𝕄) : sProp 𝕄 :=
  iprop(done 7 (wd m ρ 2 c 0) ∗ done 7 (wd m ρ 0 c 1) ∗ done 7 (wd m ρ 0 c 0) ∗ done 7 (wd m ρ 3 c 1) ∗ done 7 (wd m ρ 3 c 0)
    ∗ oPts c c 1 (shareDrop fullShare 7) (outFull m ρ) ∗ done 7 (wd m ρ 1 c 1) ∗ oPts c c 0 (shareDrop fullShare 7) (outFull m ρ) ∗ done 7 (wd m ρ 1 c 0)
    ∗ semVal (barCell c) 0 ∗ D)

set_option maxRecDepth 65536 in
/-- The kernel's body, from the first signal to the last wait. -/
theorem run_body : stS m ρ K c 0 (O₁ c) iprop(bar₀ c ∗ pend m ρ c P ∗ poss c ∗ D)
    ⊢ wpc c (cc0_body (F := F) pBuf (Memref.isWhole_whole _) xBuf (Memref.isWhole_whole _) gBuf (Memref.isWhole_whole _) oBuf (Memref.isWhole_whole _) rBuf (Memref.isWhole_whole _) cc0_scratch1 cc0_scratch2 cc0_scratch3 cc0_scratch4) (fun _ => stW m ρ K c 2 1 7 0 iprop(P ∗ emp ∗ fini m ρ c D)) := by
  rw [cc0_body_eq_skeleton]
  unfold cc0_body_skel pend poss fini
  have h10 : ∀ j, Above (lvOf (.dma (semK 1 j 0))) (osum 0 (t2 c 0) + (osum 0 (t2 c 1) + 0)) := fun j => by
    rw [lv_recv1]; exact above_add (above_t2 2 (by decide) c 0 0) (above_add (above_t2 2 (by decide) c 1 0) (above_zero 2))
  have h11 : ∀ j, Above (lvOf (.dma (semK 1 j 1))) (osum 0 (t2 c 1) + 0) := fun j => by
    rw [lv_recv1]; exact above_add (above_t2 2 (by decide) c 1 0) (above_zero 2)
  refine part1 m ρ K c fun a x y => ?_
  refine part2 m ρ K c a x y (flow_bar m ρ K c) (above_O₁ c) (flow_first m ρ K c) fun x => ?_
  refine part3 m ρ K c a x ?_
  refine part4 m ρ K c a ?_
  refine part5 m ρ K c a (flow_half m ρ K c) fun x => ?_
  refine part6 m ρ K c a x fun x => ?_
  refine part7 m ρ K c a x ?_
  refine part8 m ρ K c a (flow_sent m ρ K c) fun z x y => ?_
  refine BIBase.Entails.trans (flow_recv m ρ K c 0) ?_
  refine part9 m ρ K c a _ x y h10 fun x => ?_
  refine part10 m ρ K c a _ x h10 fun x => ?_
  refine part11 m ρ K c a _ x h10 ?_
  refine BIBase.Entails.trans (flow_rows m ρ K c 0) ?_
  refine part12 m ρ K c a z _ _ (flow_second m ρ K c 0) rfl ?_
  refine part13 m ρ K c a fun x => ?_
  refine part14 m ρ K c a x (flow_sent₀ m ρ K c) fun z x y w => ?_
  refine BIBase.Entails.trans (flow_recv m ρ K c 1) ?_
  refine part15 m ρ K c a _ x y w h11 fun x => ?_
  refine part16 m ρ K c a _ x h11 fun x => ?_
  refine part17 m ρ K c a _ x h11 ?_
  refine BIBase.Entails.trans (flow_rows m ρ K c 1) ?_
  refine part18 m ρ K c a z _ (flow_second m ρ K c 1) rfl ?_
  refine part19 m ρ K c a fun x => ?_
  refine part20 m ρ K c a x ?_
  refine BIBase.Entails.trans (flow_sent₁ m ρ K c) ?_
  refine part21 m ρ K c a (fun _ => above_zero _) fun x y => ?_
  refine part22 m ρ K c a x y (fun _ => above_zero _) ?_
  refine part23 m ρ K c a (fun _ => above_zero _) (flow_wait m ρ K c 3 3 0 1) (fun _ => above_zero _) fun x => ?_
  refine part24 m ρ K c a x (fun _ => above_zero _) fun x => ?_
  refine part25 m ρ K c a x (fun _ => above_zero _) ?_
  refine part26 m ρ K c a (fun _ => above_zero _) (flow_wait' m ρ K c 3 0 1 0) (fun _ => above_zero _) ?_
  refine part27 m ρ K c (fun _ => above_zero _) ?_
  refine part28 m ρ K c (fun _ => above_zero _) (flow_wait' m ρ K c 0 0 0 1) (fun _ => above_zero _) ?_
  refine part29 m ρ K c (fun _ => above_zero _) (flow_wait' m ρ K c 0 2 1 0) (fun _ => above_zero _) ?_
  refine part30 m ρ K c (fun _ => above_zero _) ?_
  refine BIBase.Entails.trans (flow_wait' m ρ K c 2 2 0 1) ?_
  refine part31 m ρ K c (fun _ => above_zero _) ?_
  simp only [Prog.lift, Prog.bind_op, Prog.bind_ret, Prog.pure_eq_ret]
  refine wait_step m ρ K c 2 1 6 (above_zero _) (sem3_eq _ 1 (k0_off5_eq c 6)) (by rfl) ?_
  unfold wpc
  rw [wp_ret]
  iintro H
  imodintro
  iexact H

end Run

end Cert.Exchange

end

end
-- ==== Proof.Ends.lean ====
/-
The two ends of the kernel's body on one device: the buffers taken apart for the phases, and put together again.
-/
module

public import proofs.«01_k».proof.Proof.Body

public import Idealize.ShloMosaic.Lib.Ring

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

section Ends

variable (K : Dev nD × CK → ℕ) (c : Dev nD)

omit [FloatOps F] in
/-- What may be used any number of times is at hand for every member of a family. -/
theorem share_out {I : Type} [Fintype I] [DecidableEq I] {R : sProp 𝕄} [BI.Persistent R] {Φ Ψ : I → sProp 𝕄} (h : ∀ i, iprop(R ∗ Φ i) ⊢ Ψ i) :
    iprop(R ∗ bigSep Finset.univ Φ) ⊢ bigSep Finset.univ Ψ := by
  have hR : R ⊢ bigSep (Finset.univ : Finset I) fun _ => R := BI.bigSep_of_persistent _ R
  refine BIBase.Entails.trans (sep_mono_left hR) ?_
  rw [← bigSep_sep']
  exact bigSep_mono fun i _ => h i

/-! ## A family over devices and halves: the device's own, and the others' by place -/

omit [FloatOps F] in
theorem dev_split (Φ : Dev nD → Fin 2 → sProp 𝕄) : (bigSep Finset.univ fun p : Dev nD × Fin 2 => Φ p.1 p.2)
    = iprop((Φ c 0 ∗ todo 0 fun o => Φ (peer c o) 0) ∗ (Φ c 1 ∗ todo 0 fun o => Φ (peer c o) 1)) := by
  rw [bigSep_univ_prod, bigSep_congr (fun (d : Dev nD) _ => bigSep_univ_two (Φ d)), bigSep_sep',
    bigSep_univ_at (fun d : Dev nD => Φ d 0) c, bigSep_univ_at (fun d : Dev nD => Φ d 1) c, others_eq, others_eq]

omit [FloatOps F] in
theorem bigSep_four (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
theorem erase_none : (Finset.univ.erase none : Finset CK) = Finset.univ.map Function.Embedding.some := by
  ext x; cases x <;> simp

omit [FloatOps F] in
/-- A family over a device's cells: the barrier's, and the four arrays'. -/
theorem cells_split (Φ : CK → sProp 𝕄) : bigSep Finset.univ Φ = iprop(Φ none ∗ bigSep Finset.univ fun x : Fin 4 × Dev nD × Fin 2 => Φ (some x)) := by
  rw [bigSep_univ_at Φ none, erase_none, bigSep_map]; rfl

/-- The four arrays' family, the device's own cells and the others'. -/
abbrev four (c : Dev nD) (Φ : Fin 4 → Dev nD → Fin 2 → sProp 𝕄) (k : Fin 4) : sProp 𝕄 :=
  iprop((Φ k c 0 ∗ todo 0 fun o => Φ k (peer c o) 0) ∗ (Φ k c 1 ∗ todo 0 fun o => Φ k (peer c o) 1))

omit [FloatOps F] in
theorem arrays_split (Φ : Fin 4 → Dev nD → Fin 2 → sProp 𝕄) : (bigSep Finset.univ fun x : Fin 4 × Dev nD × Fin 2 => Φ x.1 x.2.1 x.2.2)
    = iprop(four c Φ 0 ∗ four c Φ 1 ∗ four c Φ 2 ∗ four c Φ 3) := by
  rw [bigSep_univ_prod, bigSep_congr (fun (k : Fin 4) _ => dev_split c (Φ k)), bigSep_four]

/-! ## The buffers, whole and in pieces -/

omit [FloatOps F] in
theorem p_split : (((c : Thread nD τ).loc cc0_stg0_0) ↦{fullShare} xstg m ρ c : sProp 𝕄)
    = iprop((pPts m ρ c c 0 ∗ todo 0 fun o => pPts m ρ c (peer c o) 0) ∗ (pPts m ρ c c 1 ∗ todo 0 fun o => pPts m ρ c (peer c o) 1)) := by
  rw [← dev_split c (fun j s => pPts m ρ c j s)]
  have h := Ring.pointsTo_blocks (ℓ := ((c : Thread nD τ).loc cc0_stg0_0)) (Name := ℕ) (U := UU) (Lvl := ℕ) (Ix := Unit) (Val := Elt F) (q := fullShare) (fun b : Dev nD × Fin 2 => (pSet b.1 b.2 : Finset (Idx ((c : Thread nD τ).loc cc0_stg0_0)))) pSet_disj pSet_cover (xstg m ρ c)
  unfold pPts; exact h

omit [FloatOps F] in
theorem o_split (f : Buf (Elt F) ((c : Thread nD τ).loc cc0_stg3_0)) : (((c : Thread nD τ).loc cc0_stg3_0) ↦{fullShare} f : sProp 𝕄)
    = iprop((oPts c c 0 fullShare f ∗ todo 0 fun o => oPts c (peer c o) 0 fullShare f) ∗ (oPts c c 1 fullShare f ∗ todo 0 fun o => oPts c (peer c o) 1 fullShare f)) := by
  rw [← dev_split c (fun j s => oPts c j s fullShare f)]
  have h := Ring.pointsTo_blocks (Name := ℕ) (U := UU) (Lvl := ℕ) (Ix := Unit) (Val := Elt F) (q := fullShare) (fun b : Dev nD × Fin 2 => (oSet b.1 b.2 : Finset (Idx ((c : Thread nD τ).loc cc0_stg3_0)))) oSet_disj oSet_cover (f)
  unfold oPts; exact h

omit [FloatOps F] in
theorem r_split (f : Buf (Elt F) ((c : Thread nD τ).loc cc0_scratch0)) : (((c : Thread nD τ).loc cc0_scratch0) ↦{fullShare} f : sProp 𝕄)
    = iprop((rPts c c 0 f ∗ todo 0 fun o => rPts c (peer c o) 0 f) ∗ (rPts c c 1 f ∗ todo 0 fun o => rPts c (peer c o) 1 f)) := by
  rw [← dev_split c (fun j s => rPts c j s f)]
  have h := Ring.pointsTo_blocks (Name := ℕ) (U := UU) (Lvl := ℕ) (Ix := Unit) (Val := Elt F) (q := fullShare) (fun b : Dev nD × Fin 2 => (rSet b.1 b.2 : Finset (Idx ((c : Thread nD τ).loc cc0_scratch0)))) rSet_disj rSet_cover (f)
  unfold rPts; exact h

/-- The landing buffer's pieces, whatever each holds, are the buffer at some contents. -/
theorem r_join : iprop(((∃ f, rPts c c 0 f) ∗ todo 0 fun o => rPts c (peer c o) 0 (recvAll m ρ c)) ∗ ((∃ f, rPts c c 1 f) ∗ todo 0 fun o => rPts c (peer c o) 1 (recvAll m ρ c)))
    ⊢ iprop(∃ f, ((c : Thread nD τ).loc cc0_scratch0) ↦{fullShare} f) := by
  refine BIBase.Entails.trans ?_ (Ring.pointsTo_blocks_join_exists (fun b : Dev nD × Fin 2 => (rSet b.1 b.2 : Finset (Idx ((c : Thread nD τ).loc cc0_scratch0)))) rSet_disj rSet_cover (recvAll m ρ c))
  refine BIBase.Entails.trans ?_ (Entails.of_eq (dev_split c (fun j s => iprop(∃ f, rPts c j s f))).symm)
  have hm : ∀ s : Fin 2, (todo 0 fun o => rPts c (peer c o) s (recvAll m ρ c)) ⊢ (todo 0 fun o => iprop(∃ f, rPts (F := F) c (peer c o) s f)) := fun s => by
    rw [todo_zero, todo_zero]
    refine bigSep_mono fun o _ => ?_
    show rPts c (peer c o) s (recvAll m ρ c) ⊢ iprop(∃ f, rPts c (peer c o) s f)
    iintro H; iexists _; iexact H
  iintro ⟨⟨H0, H1⟩, H2, H3⟩
  isplitl [H0 H1]
  · isplitl [H0]; · iexact H0
    iapply (hm 0); iexact H1
  isplitl [H2]; · iexact H2
  iapply (hm 1); iexact H3

/-- The shares of the stored rows, back together. -/
theorem o_own (s : Fin 2) : iprop(oPts c c s (shareDrop fullShare 7) (outFull m ρ) ∗ todo 0 fun o => dmaPay m ρ c 2 (peer c o) s)
    ⊢ oPts c c s fullShare (outFull m ρ) := by
  rw [todo_zero, bigSep_congr (fun (o : Fin 7) _ => show dmaPay m ρ c 2 (peer c o) s = oPts c c s (shareTok fullShare 7 o) (outFull m ρ) from by
    show oPts c c s (shareTok fullShare 7 (place c (peer c o))) (outFull m ρ) = _; rw [place_peer])]
  unfold oPts
  exact Transfers.pointsTo_toks_join fullShare 7

/-! ## Where the body starts -/

/-- The duties the device pays, and the credit it starts with, -/
def duties (c : Dev nD) : sProp 𝕄 :=
  iprop((todo 0 fun o => dutyTok ER (barCell (peer c o)) 0 c)
    ∗ ((todo 0 fun o => dutyTok ER (dCell c 0 (peer c o) 0) 0 0) ∗ (todo 0 fun o => dutyTok ER (dCell c 0 (peer c o) 1) 0 0))
    ∗ ((todo 0 fun o => dutyTok ER (dCell (peer c o) 1 c 0) 0 0) ∗ (todo 0 fun o => dutyTok ER (dCell (peer c o) 1 c 1) 0 0))
    ∗ ((todo 0 fun o => dutyTok ER (dCell c 2 (peer c o) 0) 0 0) ∗ (todo 0 fun o => dutyTok ER (dCell c 2 (peer c o) 1) 0 0))
    ∗ ((todo 0 fun o => dutyTok ER (dCell (peer c o) 3 c 0) 0 0) ∗ (todo 0 fun o => dutyTok ER (dCell (peer c o) 3 c 1) 0 0)))
def credits (c : Dev nD) : sProp 𝕄 :=
  iprop(cred (tallyAt (barCell c) () 7) ∗ (todo 0 (crd 1 c 0) ∗ todo 0 (crd 1 c 1)) ∗ (todo 0 (crd 3 c 0) ∗ todo 0 (crd 3 c 1)))
/-- its position in each of its semaphores' rounds. -/
def places (c : Dev nD) : sProp 𝕄 := bigSep Finset.univ fun k : CK => atPos ER (kcell (c, k)) 0 ∅ 0

/-- The semaphores the device never uses: its arrays' entries for itself. -/
def idle (c : Dev nD) : sProp 𝕄 := bigSep Finset.univ fun k : Fin 4 => iprop(atPos ER (dCell c k c 0) 0 ∅ 0 ∗ atPos ER (dCell c k c 1) 0 ∅ 0)

omit [FloatOps F] in
theorem places_split : (places c : sProp 𝕄) ⊢ iprop(atPos ER (barCell c) 0 ∅ 0 ∗ idle c ∗ (todo 0 (pos 0 c 0) ∗ todo 0 (pos 0 c 1))
    ∗ (todo 0 (pos 1 c 0) ∗ todo 0 (pos 1 c 1)) ∗ (todo 0 (pos 2 c 0) ∗ todo 0 (pos 2 c 1)) ∗ (todo 0 (pos 3 c 0) ∗ todo 0 (pos 3 c 1))) := by
  unfold places idle; rw [cells_split, arrays_split c (fun k j s => atPos ER (dCell c k j s) 0 ∅ 0), bigSep_four]
  iintro ⟨Hb, ⟨⟨A0, B0⟩, C0, D0⟩, ⟨⟨A1, B1⟩, C1, D1⟩, ⟨⟨A2, B2⟩, C2, D2⟩, ⟨A3, B3⟩, C3, D3⟩
  isplitl [Hb]; · iexact Hb
  isplitl [A0 C0 A1 C1 A2 C2 A3 C3]
  · isplitl [A0 C0]; · isplitl [A0] <;> iassumption
    isplitl [A1 C1]; · isplitl [A1] <;> iassumption
    isplitl [A2 C2]; · isplitl [A2] <;> iassumption
    isplitl [A3] <;> iassumption
  isplitl [B0 D0]
  · isplitl [B0]; · iexact B0
    iexact D0
  isplitl [B1 D1]
  · isplitl [B1]; · iexact B1
    iexact D1
  isplitl [B2 D2]
  · isplitl [B2]; · iexact B2
    iexact D2
  isplitl [B3]; · iexact B3
  iexact D3

/-- What is left over until the end: the unused semaphores, and the device's own piece of its landing buffer. -/
def spare (c : Dev nD) : sProp 𝕄 := iprop(idle c ∗ (∃ f, rPts c c 0 f) ∗ (∃ f, rPts c c 1 f))

omit [FloatOps F] in
theorem sig_join (fr fo) : iprop((todo 0 fun o => dutyTok ER (barCell (peer c o)) 0 c) ∗ ((todo 0 fun o => rPts c (peer c o) 0 fr) ∗ (todo 0 fun o => rPts c (peer c o) 1 fr))
    ∗ ((todo 0 fun o => oPts c (peer c o) 0 fullShare fo) ∗ (todo 0 fun o => oPts c (peer c o) 1 fullShare fo))) ⊢ (todo 0 (sig₁ c) : sProp 𝕄) := by
  rw [← todo_sep, ← todo_sep, ← todo_sep, ← todo_sep, todo_zero, todo_zero]
  refine bigSep_mono fun o _ => ?_
  show iprop(dutyTok ER (barCell (peer c o)) 0 c ∗ (rPts c (peer c o) 0 fr ∗ rPts c (peer c o) 1 fr) ∗ (oPts c (peer c o) 0 fullShare fo ∗ oPts c (peer c o) 1 fullShare fo)) ⊢ sig₁ c o
  unfold sig₁ barPay
  iintro ⟨H, ⟨H1, H2⟩, H3, H4⟩
  isplitl [H]; · iexact H
  isplitl [H1 H2]
  · isplitl [H1]; · iexists _; iexact H1
    iexists _; iexact H2
  isplitl [H3]; · iexists _; iexact H3
  iexists _; iexact H4

theorem half₁_join (s : Fin 2) : iprop((todo 0 fun o => dutyTok ER (dCell c 0 (peer c o) s) 0 0) ∗ (todo 0 fun o => dutyTok ER (dCell (peer c o) 1 c s) 0 0) ∗ (todo 0 fun o => pPts m ρ c (peer c o) s))
    ⊢ todo 0 (half₁ m ρ c s) := by
  rw [← todo_sep, ← todo_sep]; exact BI.Entails.refl _
omit [FloatOps F] in
theorem half₂_join (s : Fin 2) : iprop((todo 0 fun o => dutyTok ER (dCell c 2 (peer c o) s) 0 0) ∗ (todo 0 fun o => dutyTok ER (dCell (peer c o) 3 c s) 0 0))
    ⊢ (todo 0 (half₂ c s) : sProp 𝕄) := by
  rw [← todo_sep]; exact BI.Entails.refl _
omit [FloatOps F] in
theorem wt_join' (kd : Fin 4) (s : Fin 2) : iprop(todo 0 (crd kd c s) ∗ todo 0 (pos kd c s)) ⊢ (todo 0 (wt kd c s) : sProp 𝕄) := by
  rw [← todo_sep]; exact BI.Entails.refl _

/-- Where the body starts: the buffers whole, the duties, the credit, the positions. -/
theorem body_start (fr fo) : iprop((recs m ρ K ∗ duties c ∗ credits c ∗ places c) ∗ OW c (O₀ c) ∗ (((c : Thread nD τ).loc cc0_scratch0) ↦{fullShare} fr)
      ∗ (((c : Thread nD τ).loc cc0_stg0_0) ↦{fullShare} xstg m ρ c) ∗ (((c : Thread nD τ).loc cc0_stg1_0) ↦{fullShare} rstg m ρ c)
      ∗ (((c : Thread nD τ).loc cc0_stg2_0) ↦{fullShare} gstg m ρ c) ∗ (((c : Thread nD τ).loc cc0_stg3_0) ↦{fullShare} fo))
    ⊢ stS m ρ K c 0 (O₁ c) iprop(bar₀ c ∗ pend m ρ c (spare c) ∗ poss c ∗ emp) := by
  rw [p_split, o_split, r_split]
  unfold duties credits stS bar₀ pend poss base fixed spare O₀
  iintro ⟨⟨HR, ⟨Tb, ⟨T00, T01⟩, ⟨T10, T11⟩, ⟨T20, T21⟩, T30, T31⟩, ⟨Cb, ⟨C10, C11⟩, C30, C31⟩, Hpl⟩, HO, ⟨⟨R0, R0'⟩, R1, R1'⟩, ⟨⟨P0, P0'⟩, P1, P1'⟩, Hx, Hg, ⟨⟨U0, U0'⟩, U1, U1'⟩⟩
  ihave Hpl := (places_split (F := F) c) $$ Hpl
  icases Hpl with ⟨Ab, Hid, ⟨A00, A01⟩, ⟨A10, A11⟩, ⟨A20, A21⟩, A30, A31⟩
  isplitl [HR HO P0 P1 Hx Hg]
  · isplitl [HR]; · iexact HR
    isplitl [HO]; · iexact HO
    isplitl [P0]; · iexact P0
    isplitl [P1]; · iexact P1
    isplitl [Hx] <;> iassumption
  isplitl [Tb R0' R1' U0' U1']
  · iapply (sig_join c fr fo)
    isplitl [Tb]; · iexact Tb
    isplitl [R0' R1']; · isplitl [R0'] <;> iassumption
    isplitl [U0'] <;> iassumption
  isplitl [Cb Ab]; · isplitl [Cb] <;> iassumption
  isplitr [A00 A01 A20 A21]
  · isplitl [T00 T10 P0']
    · iapply (half₁_join m ρ c 0); isplitl [T00]; · iexact T00
      isplitl [T10] <;> iassumption
    isplitl [T01 T11 P1']
    · iapply (half₁_join m ρ c 1); isplitl [T01]; · iexact T01
      isplitl [T11] <;> iassumption
    isplitl [C10 A10]; · iapply (wt_join' c 1 0); isplitl [C10] <;> iassumption
    isplitl [T20 T30 U0]
    · isplitl [T20 T30]; · iapply (half₂_join c 0); isplitl [T20] <;> iassumption
      iexists _; iexact U0
    isplitl [C11 A11]; · iapply (wt_join' c 1 1); isplitl [C11] <;> iassumption
    isplitl [T21 T31 U1]
    · isplitl [T21 T31]; · iapply (half₂_join c 1); isplitl [T21] <;> iassumption
      iexists _; iexact U1
    isplitl [C30 A30]; · iapply (wt_join' c 3 0); isplitl [C30] <;> iassumption
    isplitl [C31 A31]; · iapply (wt_join' c 3 1); isplitl [C31] <;> iassumption
    isplitl [Hid]; · iexact Hid
    isplitl [R0]; · iexists _; iexact R0
    iexists _; iexact R1
  isplitl [A00 A01 A20 A21]
  · isplitl [A00]; · iexact A00
    isplitl [A01]; · iexact A01
    isplitl [A20]; · iexact A20
    isplitl [A21]; · iexact A21
    iempintro
  iempintro

/-! ## Where it ends -/

theorem wd_split (kd : Fin 4) (s : Fin 2) : done 7 (wd m ρ kd c s)
    = iprop((todo 0 fun o => semVal (dCell c kd (peer c o) s) 0) ∗ todo 0 fun o => dmaPay m ρ c kd (peer c o) s) := by
  rw [← todo_sep, done_seven, todo_zero]; rfl

/-- An unused semaphore is closed at zero. -/
theorem idle_close (k : Fin 4) (s : Fin 2) : iprop(recs m ρ K ∗ atPos ER (dCell c k c s) 0 ∅ 0) ⊢ |={Set.univ}=> (semVal (dCell c k c s) 0 : sProp 𝕄) := by
  iintro ⟨#HR, Hat⟩
  imod (Rounds.cell_close ER (sched m ρ) (Set.mem_univ (K (c, some (k, c, s)))) (fun h => h) (R := 0) (duties_own m ρ c k s)) $$ [Hat] with Hz
  · isplitr; · iapply (recs_inv m ρ K (c, some (k, c, s))); iexact HR
    iexact Hat
  imodintro
  iexact Hz

theorem idle_zero : iprop(recs m ρ K ∗ idle c) ⊢ |={Set.univ}=> (bigSep Finset.univ fun k : Fin 4 => iprop(semVal (dCell c k c 0) 0 ∗ semVal (dCell c k c 1) 0) : sProp 𝕄) := by
  unfold idle
  refine BIBase.Entails.trans (share_out (R := recs m ρ K) (Ψ := fun k : Fin 4 => iprop(|={Set.univ}=> (semVal (dCell c k c 0) 0 ∗ semVal (dCell c k c 1) 0))) fun k => ?_) (bigSep_fupd _ _)
  iintro ⟨#HR, H0, H1⟩
  imod (idle_close m ρ K c k 0) $$ [H0] with H0
  · isplitr; · iexact HR
    iexact H0
  imod (idle_close m ρ K c k 1) $$ [H1] with H1
  · isplitr; · iexact HR
    iexact H1
  imodintro
  isplitl [H0] <;> iassumption

/-- All the device's semaphores at zero. -/
def zeros (c : Dev nD) : sProp 𝕄 := bigSep Finset.univ fun k : CK => semVal (kcell (c, k)) 0

/-- Where the body ends: the buffers whole again, the result's computed, every semaphore at zero, nothing owed. -/
theorem body_end : stW m ρ K c 2 1 7 0 iprop(spare c ∗ emp ∗ fini m ρ c iprop(emp))
    ⊢ |={Set.univ}=> iprop(zeros c ∗ OW c 0 ∗ (∃ f, ((c : Thread nD τ).loc cc0_scratch0) ↦{fullShare} f)
      ∗ (((c : Thread nD τ).loc cc0_stg0_0) ↦{fullShare} xstg m ρ c) ∗ (((c : Thread nD τ).loc cc0_stg1_0) ↦{fullShare} rstg m ρ c)
      ∗ (((c : Thread nD τ).loc cc0_stg2_0) ↦{fullShare} gstg m ρ c) ∗ (((c : Thread nD τ).loc cc0_stg3_0) ↦{fullShare} outFull m ρ)) := by
  unfold stW spare fini base fixed
  simp only [wd_split]
  iintro ⟨⟨#HR, HO, P0, P1, Hx, Hg⟩, -, ⟨Z21, Y21⟩, ⟨Hid, R0, R1⟩, -, ⟨Z20, Y20⟩, ⟨Z01, Y01⟩, ⟨Z00, Y00⟩, ⟨Z31, Y31⟩, ⟨Z30, Y30⟩, S1, ⟨Z11, Y11⟩, S0, ⟨Z10, Y10⟩, Zb, -⟩
  imod (idle_zero m ρ K c) $$ [Hid] with Hid
  · isplitr; · iexact HR
    iexact Hid
  ihave Hid := (Entails.of_eq (bigSep_four (fun k : Fin 4 => iprop(semVal (dCell c k c 0) 0 ∗ semVal (dCell c k c 1) 0)))) $$ Hid
  icases Hid with ⟨⟨I00, I01⟩, ⟨I10, I11⟩, ⟨I20, I21⟩, I30, I31⟩
  ihave S0 := (o_own m ρ c 0) $$ [S0 Y20]
  · isplitl [S0] <;> iassumption
  ihave S1 := (o_own m ρ c 1) $$ [S1 Y21]
  · isplitl [S1] <;> iassumption
  imodintro
  unfold zeros
  rw [cells_split, arrays_split c (fun k j s => semVal (dCell c k j s) 0), p_split, o_split]
  isplitl [Zb I00 I01 I10 I11 I20 I21 I30 I31 Z00 Z01 Z10 Z11 Z20 Z21 Z30 Z31]
  · isplitl [Zb]; · iexact Zb
    isplitl [I00 I01 Z00 Z01]
    · isplitl [I00 Z00]; · isplitl [I00] <;> iassumption
      isplitl [I01] <;> iassumption
    isplitl [I10 I11 Z10 Z11]
    · isplitl [I10 Z10]; · isplitl [I10] <;> iassumption
      isplitl [I11] <;> iassumption
    isplitl [I20 I21 Z20 Z21]
    · isplitl [I20 Z20]; · isplitl [I20] <;> iassumption
      isplitl [I21] <;> iassumption
    isplitl [I30 Z30]; · isplitl [I30] <;> iassumption
    isplitl [I31] <;> iassumption
  isplitl [HO]; · iexact HO
  isplitl [R0 R1 Y10 Y11]
  · iapply (r_join m ρ c)
    isplitl [R0 Y10]
    · isplitl [R0]; · iexact R0
      iexact Y10
    isplitl [R1]; · iexact R1
    iexact Y11
  isplitl [P0 P1 Y00 Y01]
  · isplitl [P0 Y00]
    · isplitl [P0]; · iexact P0
      iexact Y00
    isplitl [P1]; · iexact P1
    iexact Y01
  isplitl [Hx]; · iexact Hx
  isplitl [Hg]; · iexact Hg
  isplitl [S0 Y30]
  · isplitl [S0]; · iexact S0
    iexact Y30
  isplitl [S1]; · iexact S1
  iexact Y31

end Ends

end Cert.Exchange

end

end
-- ==== Proof.Core.lean ====
/-
The kernel's body on one device, as the launch asks for it.
-/
module

public import proofs.«01_k».proof.Proof.Ends

public import proofs.«01_k».proof.Proof.Gen.KernelIdeal.Points

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Pipeline (Dat BodyObligation)

section Core

/-- Every semaphore's invariant, under the names `K`, and that its round is open. -/
def records (K : Dev nD × CK → ℕ) : sProp 𝕄 :=
  iprop((bigSep Finset.univ fun p : Dev nD × CK => cellInv ER (sched m ρ) (K p) (kcell p))
    ∗ bigSep Finset.univ fun p : Dev nD × CK => reached ER (kcell p) 0)

instance records_persistent (K : Dev nD × CK → ℕ) : BI.Persistent (records (F := F) m ρ K) := by unfold records; infer_instance

/-- What a device has of the exchange before its kernel starts: the records, the duties it pays, its positions. -/
def held (c : Dev nD) : sProp 𝕄 := iprop(∃ K, records m ρ K ∗ duties c ∗ places c)

def start (c : Dev nD) : sProp 𝕄 := iprop(held m ρ c ∗ credits c ∗ levAts L lv)

/-- Before the one point of the grid, and after it. -/
def Φ₀ (c : Dev nD) : sProp 𝕄 := iprop(start m ρ c ∗ ∃ f, ((c : Thread nD τ).loc cc0_scratch0) ↦{fullShare} f)
def Φ₁ (c : Dev nD) : sProp 𝕄 := iprop((∃ f, ((c : Thread nD τ).loc cc0_scratch0) ↦{fullShare} f) ∗ zeros c)

/-- The launch's account of the kernel on device `c`: the staged inputs unchanged, the staged result computed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => rstg m ρ c
    | ⟨2, _⟩ => gstg m ρ c
    | ⟨3, _⟩ => outFull m ρ
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev first : Fin cfg0.N := t0_0

omit [FloatOps F] in
theorem windows_four (Φ : Fin cfg0.W → sProp 𝕄) : bigSep Finset.univ Φ = iprop(Φ (0 : Fin 4) ∗ Φ (1 : Fin 4) ∗ Φ (2 : Fin 4) ∗ Φ (3 : Fin 4)) := bigSep_W0 Φ

/-- A staging buffer of device `c` at contents `X`. -/
abbrev staged (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
theorem owns_staged (c : Dev nD) (b : Ref sig .tc) (X : b.ty.Contents (Elt F)) :
    (owns (Ix := Unit) (Name := ℕ) (U := UU) (Lvl := ℕ) (c : Thread nD τ) (Memref.whole b) fullShare X : sProp 𝕄) = staged c b X := by
  unfold owns; simp only [Memref.view_whole, View.read_whole, View.set_whole]

def pre (c : Dev nD) : sProp 𝕄 :=
  iprop(Φ₀ m ρ c ∗ (dats m ρ 0 c).owesAt () first.castSucc
    ∗ (∃ d, staged c cc0_stg0_0 ((dats m ρ 0 c).before (0 : Fin 4) first d))
    ∗ (∃ d, staged c cc0_stg1_0 ((dats m ρ 0 c).before (1 : Fin 4) first d))
    ∗ (∃ d, staged c cc0_stg2_0 ((dats m ρ 0 c).before (2 : Fin 4) first d))
    ∗ (∃ d, staged c cc0_stg3_0 ((dats m ρ 0 c).before (3 : Fin 4) first d)))

def post (c : Dev nD) : sProp 𝕄 :=
  iprop(Φ₁ c ∗ (dats m ρ 0 c).owesAt () first.succ
    ∗ staged c cc0_stg0_0 (xstg m ρ c) ∗ staged c cc0_stg1_0 (rstg m ρ c) ∗ staged c cc0_stg2_0 (gstg m ρ c) ∗ staged c cc0_stg3_0 (outFull m ρ))

theorem recs_of (K : Dev nD × CK → ℕ) : iprop(records m ρ K ∗ levAts L lv) ⊢ recs m ρ K := by
  unfold records recs
  iintro ⟨⟨H1, H2⟩, H3⟩
  isplitl [H1]; · iexact H1
  isplitl [H2] <;> iassumption

/-- From `pre`, the body runs to what `body_end` starts from. -/
theorem pre_start (c : Dev nD) : pre m ρ c ⊢ iprop(∃ K, stS m ρ K c 0 (O₁ c) iprop(bar₀ c ∗ pend m ρ c (spare c) ∗ poss c ∗ emp)) := by
  unfold pre Φ₀ start held Dat.owesAt Pipeline.owesWithin
  rw [show (dats m ρ 0 c).owed first.castSucc = O₀ c from rfl]
  iintro ⟨⟨⟨⟨%K, HR, HD, Hp⟩, Hc, Hl⟩, ⟨%fr, Hr⟩⟩, ⟨%W, %hW, HO⟩, ⟨%d0, %g0, %hg0, H0⟩, ⟨%d1, %g1, %hg1, H1⟩, ⟨%d2, %g2, %hg2, H2⟩, ⟨%d3, %g3, %hg3, H3⟩⟩
  have h0 : g0 = xstg m ρ c := by rw [hg0]; unfold Dat.before; rw [if_pos (fetch0_0 first)]; rfl
  have h1 : g1 = rstg m ρ c := by rw [hg1]; unfold Dat.before; rw [if_pos (fetch0_1 first)]; rfl
  have h2 : g2 = gstg m ρ c := by rw [hg2]; unfold Dat.before; rw [if_pos (fetch0_2 first)]; rfl
  subst h0; subst h1; subst h2
  iexists K
  iapply (body_start m ρ K c fr g3)
  isplitl [HR HD Hp Hc Hl]
  · isplitl [HR Hl]; · iapply (recs_of m ρ K); isplitl [HR] <;> iassumption
    isplitl [HD]; · iexact HD
    isplitl [Hc] <;> iassumption
  isplitl [HO]; · unfold OW; iexists W; iexact HO
  isplitl [Hr]; · iexact Hr
  isplitl [H0]; · iexact H0
  isplitl [H1]; · iexact H1
  isplitl [H2]; · iexact H2
  iexact H3

theorem end_post (K : Dev nD × CK → ℕ) (c : Dev nD) : stW m ρ K c 2 1 7 0 iprop(spare c ∗ emp ∗ fini m ρ c iprop(emp)) ⊢ |={Set.univ}=> post m ρ c := by
  iintro H
  imod (body_end m ρ K c) $$ H with ⟨Hz, HO, Hr, H0, H1, H2, H3⟩
  imodintro
  unfold post Φ₁ Dat.owesAt Pipeline.owesWithin OW
  rw [show (dats m ρ 0 c).owed first.succ = 0 from rfl]
  icases HO with ⟨%W, HO⟩
  isplitl [Hz Hr]; · isplitl [Hr] <;> iassumption
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

set_option maxRecDepth 20000 in
/-- The kernel's body on device `c`, from `pre` to `post`. -/
theorem core_body (c : Dev nD) : pre m ρ c ⊢ wpc c
    (cc0_body (F := F) pBuf (Memref.isWhole_whole _) xBuf (Memref.isWhole_whole _) gBuf (Memref.isWhole_whole _) oBuf (Memref.isWhole_whole _) rBuf (Memref.isWhole_whole _)
      cc0_scratch1 cc0_scratch2 cc0_scratch3 cc0_scratch4) (fun _ => post m ρ c) := by
  refine (pre_start m ρ c).trans ?_
  refine Idealize.SL.BI.BIClass.exists_elim fun K => ?_
  exact (run_body m ρ K c).trans ((wp_mono _ _ _ fun _ => end_post m ρ K c).trans (wp_fupd _ _ _ _ _))

set_option maxRecDepth 20000 in
/-- The launch's obligation on the body, on device `c`. -/
theorem core_obligation (c : Dev nD) : BodyObligation (dats (F := F) m ρ 0 c) (defs₀ (F := F)) 𝒱₀ () Set.univ := fun t => by
  rw [fin_N0 t]
  rw [windows_four, windows_four]
  simp only [owns_staged]
  show pre m ρ c ⊢ wp frame (wpE (defs₀ (F := F)) 𝒱₀ (c : Thread nD τ) none) Set.univ
    (cc0_body (F := F) pBuf (Memref.isWhole_whole _) xBuf (Memref.isWhole_whole _) gBuf (Memref.isWhole_whole _) oBuf (Memref.isWhole_whole _) rBuf (Memref.isWhole_whole _)
      cc0_scratch1 cc0_scratch2 cc0_scratch3 cc0_scratch4) (fun _ => post m ρ c)
  exact core_body m ρ c

end Core

end Cert.Exchange

end

end
-- ==== Proof.Launch.lean ====
/-
The launch on all eight devices: semaphores, duties and credit dealt out, and the run.
-/
module

public import proofs.«01_k».proof.Proof.Core

public import Idealize.ShloMosaic.Lib.Pipeline.CollectiveSegs

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Pipeline (Dat BodyObligation)

section Launch

/-! ## The semaphores and the duties, dealt out -/

/-- The kernel's own semaphores: its four arrays' entries. -/
abbrev osem (x : Fin 4 × Dev nD × Fin 2) : SemLoc sig := .dma (semK x.1 x.2.1 x.2.2)

theorem semK_inj {k k' : Fin 4} {j j' : Dev nD} {s s' : Fin 2} (h : semK k j s = semK k' j' s') : k = k' ∧ j = j' ∧ s = s' :=
  ⟨by rw [← arrOf_semK k j s, h, arrOf_semK], by rw [← devOf_semK k j s, h, devOf_semK], by rw [← halfOf_semK k j s, h, halfOf_semK]⟩

theorem csem_injective : Function.Injective csem := fun x y h => by
  rcases x with _ | ⟨k, j, s⟩ <;> rcases y with _ | ⟨k', j', s'⟩
  · rfl
  · cases h
  · cases h
  · obtain ⟨rfl, rfl, rfl⟩ := semK_inj (SemLoc.dma.inj h); rfl

theorem kcell_injective : Function.Injective kcell := fun x y h =>
  Prod.ext (congrArg (fun g : GSem nD τ sig => g.1.1) h) (csem_injective (congrArg Prod.snd h))

def exchCells : Finset (GSem nD τ sig) := Finset.univ.map ⟨kcell, kcell_injective⟩

abbrev Tok : Type := Dev nD × (Fin 7 ⊕ (Fin 4 × Fin 7 × Fin 2))

/-- The duties a device pays: a signal to each other device's barrier; of each transfer, the sender's semaphore (its own) and
    the receiver's (the other's). -/
def tokOf : Tok → GSem nD τ sig × ℕ × Dev nD
  | (c, .inl o) => (barCell (peer c o), 0, c)
  | (c, .inr (0, o, s)) => (dCell c 0 (peer c o) s, 0, 0)
  | (c, .inr (1, o, s)) => (dCell (peer c o) 1 c s, 0, 0)
  | (c, .inr (2, o, s)) => (dCell c 2 (peer c o) s, 0, 0)
  | (c, .inr (3, o, s)) => (dCell (peer c o) 3 c s, 0, 0)

theorem dCell_inj {c c' : Dev nD} {k k' : Fin 4} {j j' : Dev nD} {s s' : Fin 2} (h : dCell c k j s = dCell c' k' j' s') : c = c' ∧ k = k' ∧ j = j' ∧ s = s' :=
  ⟨congrArg (fun g : GSem nD τ sig => g.1.1) h, semK_inj (SemLoc.dma.inj (congrArg Prod.snd h))⟩

theorem tokOf_injective : Function.Injective tokOf := fun x y h => by
  obtain ⟨c, x⟩ := x; obtain ⟨c', y⟩ := y
  rcases x with o | ⟨k, o, s⟩ <;> rcases y with o' | ⟨k', o', s'⟩
  · obtain rfl : c = c' := congrArg (fun x => x.2.2) h
    have h1 : peer c o = peer c o' := congrArg (fun x => x.1.1.1) h
    rw [peer_injective c h1]
  · have h2 : (tokOf (c', .inr (k', o', s'))).1.2 = .reg barS := (congrArg (fun x => x.1.2) h).symm
    fin_cases k' <;> cases h2
  · have h2 : (tokOf (c, .inr (k, o, s))).1.2 = .reg barS := congrArg (fun x => x.1.2) h
    fin_cases k <;> cases h2
  · have h1 := congrArg Prod.fst h
    have key : c = c' ∧ k = k' ∧ peer c o = peer c' o' ∧ s = s' := by
      fin_cases k <;> fin_cases k' <;> have h3 := dCell_inj h1 <;>
        first
        | exact ⟨h3.1, h3.2.1, h3.2.2.1, h3.2.2.2⟩
        | exact ⟨h3.2.2.1, h3.2.1, h3.1, h3.2.2.2⟩
        | exact absurd h3.2.1 (by decide)
    obtain ⟨rfl, rfl, h4, rfl⟩ := key
    rw [peer_injective c h4]

def exchToks : Finset (GSem nD τ sig × ℕ × Dev nD) := Finset.univ.map ⟨tokOf, tokOf_injective⟩

def u₀ : UU :=
  (initOf (Pipeline.cells cfgs cellOf_inj) (Pipeline.launchToks cfgs cellOf_inj), initOf exchCells exchToks)

/-- What the launch deals device `c`: its semaphores' rounds, its positions in them, the duties it pays. -/
def G (c : Dev nD) : sProp 𝕄 :=
  iprop((bigSep Finset.univ fun k : CK => roundState ER (sched m ρ) (kcell (c, k)) 0)
    ∗ (places c ∗ bigSep Finset.univ fun k : CK => reached ER (kcell (c, k)) 0) ∗ duties c)

omit [FloatOps F] in
theorem duties_eq (c : Dev nD) : (bigSep Finset.univ fun t : Fin 7 ⊕ (Fin 4 × Fin 7 × Fin 2) => (dutyTok ER (tokOf (c, t)).1 (tokOf (c, t)).2.1 (tokOf (c, t)).2.2 : sProp 𝕄))
    = duties c := by
  have hk (Φ : Fin 7 → Fin 2 → sProp 𝕄) : (bigSep Finset.univ fun x : Fin 7 × Fin 2 => Φ x.1 x.2) = iprop((todo 0 fun o => Φ o 0) ∗ todo 0 fun o => Φ o 1) := by
    rw [bigSep_univ_prod, bigSep_congr (fun (o : Fin 7) _ => bigSep_univ_two (Φ o)), bigSep_sep', todo_zero, todo_zero]
  unfold duties
  rw [BI.bigSep_univ_sum, BI.bigSep_univ_prod (fun x : Fin 4 × Fin 7 × Fin 2 => (dutyTok ER (tokOf (c, .inr x)).1 (tokOf (c, .inr x)).2.1 (tokOf (c, .inr x)).2.2 : sProp 𝕄)), bigSep_four,
    ← hk (fun o s => dutyTok ER (dCell c 0 (peer c o) s) 0 0), ← hk (fun o s => dutyTok ER (dCell (peer c o) 1 c s) 0 0),
    ← hk (fun o s => dutyTok ER (dCell c 2 (peer c o) s) 0 0), ← hk (fun o s => dutyTok ER (dCell (peer c o) 3 c s) 0 0), todo_zero]
  rfl

theorem fund_exch : BI.own (ER (initOf exchCells exchToks)) ⊢ (|==> bigSep Finset.univ (G m ρ) : sProp 𝕄) := by
  have hX (Φ : GSem nD τ sig → sProp 𝕄) : bigSep exchCells Φ = bigSep Finset.univ fun c : Dev nD => bigSep Finset.univ fun k : CK => Φ (kcell (c, k)) := by
    unfold exchCells; rw [bigSep_map, bigSep_univ_prod]; rfl
  have hT : bigSep exchToks (fun x => (dutyTok ER x.1 x.2.1 x.2.2 : sProp 𝕄)) = bigSep Finset.univ fun c : Dev nD => duties c := by
    unfold exchToks; rw [bigSep_map, bigSep_univ_prod]
    exact bigSep_congr fun c _ => duties_eq c
  iintro HX
  imod (Rounds.fund ER (sched m ρ) exchCells exchToks) $$ HX with ⟨Hst, Hr, Hat, Htok⟩
  imodintro
  ihave Hst := (Entails.of_eq (hX fun g => roundState ER (sched m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G places; simp only [bigSep_sep']
  isplitl [Hst]; · iexact Hst
  isplitl [Hat Hr]; · isplitl [Hat] <;> iassumption
  iexact Htok

/-! ## The invariants, opened for every device at once -/

omit [FloatOps F] in
/-- The barrier semaphore is the one that outlives the kernel. -/
theorem unscoped_bar (c : Dev nD) : (unscopedSems0 c : sProp 𝕄) = semVal (barCell c) 0 := by
  unfold unscopedSems0; rw [bigSep_eq_bigSepL_of_eq [SemLoc.reg barS] (by decide) (by decide)]; rfl

omit [FloatOps F] in
theorem zeros_eq (c : Dev nD) : (zeros c : sProp 𝕄)
    = iprop(unscopedSems0 c ∗ Pipeline.ownSems0 (Ix := Unit) (Name := ℕ) (U := UU) (Lvl := ℕ) (Val := Elt F) (τ := τ) osem c) := by
  unfold zeros; rw [cells_split, unscoped_bar]; rfl

theorem alloc_one (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (sched m ρ) κ (kcell (c, k))))
          ∗ (bigSep Finset.univ fun k : CK => reached ER (kcell (c, k)) 0) ∗ duties c ∗ places c) := by
  unfold G
  iintro ⟨Hos, Hus, Hst, ⟨Hat, Hr⟩, Htok⟩
  ihave Hv := (Entails.of_eq (zeros_eq (F := F) c).symm) $$ [Hos Hus]
  · isplitl [Hus] <;> iassumption
  imod (show iprop(zeros c ∗ bigSep Finset.univ fun k : CK => roundState ER (sched m ρ) (kcell (c, k)) 0)
      ⊢ (|={Set.univ}=> bigSep Finset.univ fun k : CK => iprop(∃ κ : ℕ, cellInv ER (sched m ρ) κ (kcell (c, k))) : sProp 𝕄) from by
        unfold zeros; rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Htok] <;> iassumption

theorem held_intro (K : Dev nD × CK → ℕ) (c : Dev nD) : iprop(records m ρ K ∗ duties c ∗ places c) ⊢ held m ρ c := by
  unfold held; iintro H; iexists K; iexact H

theorem regroup :
    (bigSep Finset.univ fun c : Dev nD => iprop((bigSep Finset.univ fun k : CK => iprop(∃ κ : ℕ, cellInv ER (sched m ρ) κ (kcell (c, k))))
          ∗ (bigSep Finset.univ fun k : CK => reached ER (kcell (c, k)) 0) ∗ duties c ∗ places c) : sProp 𝕄)
      ⊢ bigSep Finset.univ (held m ρ) := by
  rw [bigSep_sep', bigSep_sep', ← bigSep_univ_prod (fun p : Dev nD × CK => iprop(∃ κ : ℕ, cellInv ER (sched m ρ) κ (kcell p))),
    ← bigSep_univ_prod (fun p : Dev nD × CK => (reached ER (kcell p) 0 : sProp 𝕄))]
  iintro ⟨HI, #HR, Hl⟩
  ihave HK := (BI.bigSep_exists_pi Finset.univ (fun (p : Dev nD × CK) (κ : ℕ) => (cellInv ER (sched m ρ) κ (kcell p) : sProp 𝕄))) $$ HI
  icases HK with ⟨%K, #HI⟩
  iapply (share_out (R := records m ρ K) fun c => held_intro m ρ K c)
  isplitr
  · unfold records; isplitl; · iexact HI
    iexact HR
  · iexact Hl

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (held m ρ) :=
  ((bigSep_mono fun c _ => alloc_one m ρ c).trans (bigSep_fupd _ _)).trans (BI.fupd_mono (regroup m ρ))

/-! ## The credit: what all devices owe, by whom they owe it to -/

/-- Over the pairs of distinct devices, either may be the first. -/
theorem sum_pairs {A : Type} [AddCommMonoid A] (f : Dev nD → Dev nD → A) : (∑ d, ∑ o : Fin 7, f d (peer d o)) = ∑ c, ∑ o : Fin 7, f (peer c o) c := by
  have h1 (g : Dev nD → A) (d : Dev nD) : (∑ o : Fin 7, g (peer d o)) = ∑ p ∈ Finset.univ.erase d, g p := by
    rw [erase_eq, Finset.sum_image fun x _ y _ h => peer_injective d h]
  rw [Finset.sum_congr rfl fun d _ => h1 (f d) d, Finset.sum_congr rfl fun c _ => h1 (fun p => f p c) c]
  refine Finset.sum_comm' fun x y => ?_
  simp only [Finset.mem_univ, true_and, and_true, Finset.mem_erase, ne_eq]
  exact ⟨fun h h' => h h'.symm, fun h h' => h h'.symm⟩

/-- What device `c` waits for: a signal, and of each transfer to it the credit, from every other device. -/
def T (c : Dev nD) : CellTallies nD τ sig Unit :=
  (∑ o : Fin 7, tallyAt (barCell c) () 1) + ((∑ o : Fin 7, tallyAt (dCell c 1 (peer c o) 0) () N) + ((∑ o : Fin 7, tallyAt (dCell c 1 (peer c o) 1) () N)
    + ((∑ o : Fin 7, tallyAt (dCell c 3 (peer c o) 0) () N) + ∑ o : Fin 7, tallyAt (dCell c 3 (peer c o) 1) () N)))

theorem osum_zero (f : Fin 7 → CellTallies nD τ sig Unit) : osum 0 f = ∑ o, f o := by
  unfold osum; rw [Finset.filter_true_of_mem fun o _ => Nat.zero_le _]

theorem owed_sum : (∑ d, O₀ d) = ∑ d, T d := by
  unfold O₀ O₁ O₂ T
  simp only [osum_zero, Finset.sum_add_distrib]
  unfold tb t1 t2
  rw [sum_pairs (fun d p => tallyAt (barCell p) () 1), sum_pairs (fun d p => tallyAt (dCell p 1 d 0) () N), sum_pairs (fun d p => tallyAt (dCell p 1 d 1) () N),
    sum_pairs (fun d p => tallyAt (dCell p 3 d 0) () N), sum_pairs (fun d p => tallyAt (dCell p 3 d 1) () N)]

theorem T_own (d : Dev nD) (g : GSem nD τ sig) (h : T d g ≠ 0) : g.1 = (d.tc : Thread nD τ) := by
  by_contra hn
  have h1 (sm : SemLoc sig) (k : ℕ) : (tallyAt ((d : Thread nD τ), sm) () k : CellTallies nD τ sig Unit) g = 0 :=
    tallyAt_ne_cell (fun he => hn (by rw [he])) _ _
  refine h ?_
  unfold T
  simp only [Pi.add_apply, Finset.sum_apply, h1, Finset.sum_const_zero, add_zero]

omit [FloatOps F] in
theorem credits_intro (c : Dev nD) : (Pipeline.launchCred O₀ c : sProp 𝕄) ⊢ credits c := by
  rw [Pipeline.launchCred_of_sum O₀ T owed_sum T_own c]
  have hb : (∑ o : Fin 7, tallyAt (barCell c) () 1 : CellTallies nD τ sig Unit) = tallyAt (barCell c) () 7 := by
    simp only [Fin.sum_univ_seven, tallyAt_add]
  have hc (k : Fin 4) (s : Fin 2) : (cred (∑ o : Fin 7, tallyAt (dCell c k (peer c o) s) () N) : sProp 𝕄) ⊢ todo 0 (crd k c s) := by
    rw [Pipeline.cred_finsetSum, todo_zero]; exact BI.Entails.refl _
  unfold T credits
  rw [hb]
  refine (cred_add _ _).1.trans (sep_mono_right ?_)
  iintro H
  ihave H := (cred_add _ _).1 $$ H
  icases H with ⟨H1, H⟩
  ihave H := (cred_add _ _).1 $$ H
  icases H with ⟨H2, H⟩
  ihave H := (cred_add _ _).1 $$ H
  icases H with ⟨H3, H4⟩
  isplitl [H1 H2]
  · isplitl [H1]; · iapply (hc 1 0); iexact H1
    iapply (hc 1 1); iexact H2
  · isplitl [H3]; · iapply (hc 3 0); iexact H3
    iapply (hc 3 1); iexact H4

/-! ## The launch's side conditions -/

theorem own_facts : Pipeline.OwnSemFacts cfg0.spec osem := by decide

theorem share_full (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ held m ρ c)
      ⊢ |={Set.univ}=> iprop(start m ρ c ∗ emp) := by
  iintro ⟨-, Hlev, Hcr, -, HG⟩
  ihave Hc := (credits_intro (F := F) c) $$ Hcr
  imodintro
  unfold start
  isplitl
  · isplitl [HG]; · iexact HG
    isplitl [Hc] <;> iassumption
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  rw [zeros_eq]
  iintro ⟨Hr, Hu, Ho⟩
  isplitl [Hu]; · iexact Hu
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_above c _ _ (by
      have h0 : lvOf (SemLoc.dma ((cfg0.win w).sem s)) = 0 := by fin_cases w <;> fin_cases s <;> decide
      have h1 : Above 0 ((dats m ρ 0 c).owed t) := by
        rcases t with ⟨_ | _, ht⟩
        · exact above_O₀ c
        · exact above_zero _
      exact above_mono (le_of_eq h0) h1)

/-! ## The run -/

/-- An array of device `c` after the run. -/
def final (c : Dev nD) (w : Fin cfg0.W) : Buf (Elt F) ((cfg0.win w).arr.view.loc (c : Thread nD τ)) := (dats m ρ 0 c).arrAt w cfg0.N

def Done : PUnit × MemSt nD τ sig (Elt F) → Prop := fun r =>
  ∀ c : Dev nD, ∀ w : Fin cfg0.W, r.2.mem ((cfg0.win w).arr.view.loc (c : Thread nD τ)) = final m ρ c w

set_option maxRecDepth 8000 in
/-- For any float values, from any memory with every semaphore at zero: the program ends on all eight devices, with each array as
    `final` says and every semaphore at zero. -/
theorem run_main : θ_run defs (onTc (τ := τ) (main (F := F))) (s₀ m ρ) (fun r => Done m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ own_facts (Pipeline.PreFacts.none _) EP defs₀ 𝒱₀ m ρ main
    (hmain := fun _ => rfl)
    (hbody := core_obligation m ρ) (hne := fun w => by fin_cases w <;> exact Nat.succ_pos _) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := G m ρ) (G' := held m ρ) (u₀ := u₀)
    (hu₀ := by
      unfold u₀
      iintro Hu
      ihave H := (ownU_pair _ _) $$ Hu
      icases H with ⟨HP, HX⟩
      imod (fund_exch m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs end as they were; -/
theorem final_in (c : Dev nD) (w : Fin cfg0.W) (h : w.val < 3) : final m ρ c w = m ((cfg0.win w).arr.view.loc (c : Thread nD τ)) := by
  refine (dats (F := F) m ρ 0 c).arrAt_in w ?_ _
  fin_cases w <;> first | rfl | exact absurd h (by decide)

end Launch

end Cert.Exchange

end

end
-- ==== Proof.Result.lean ====
/-
What the run leaves in the result array, entry by entry, and what each load of the body reads, at any float values.
-/
module

public import proofs.«01_k».proof.Proof.Launch
public import Idealize.ShloMosaic.Lib.Pointwise

@[expose] public section

noncomputable section

namespace Cert.Exchange

open Cert.KernelIdeal Cert.KernelIdeal.Gen
open Idealize.ShloMosaic
open Idealize.ShloMosaic.TcCoe

variable {F : FTy → Type} [FloatOps F]
variable (m : (ℓ : Loc nD τ sig) → Buf (Elt F) ℓ) (ρ : Dev nD → PrngReg)

/-- The result window's one block is the whole array, written back at the one point. -/
theorem final_out (c : Dev nD) : final m ρ c (3 : Fin 4) = outFull m ρ := by
  unfold final
  rw [show cfg0.N = ((0 : Fin 1) : Fin cfg0.N).val + 1 from rfl, (dats m ρ 0 c).arrAt_succ (3 : Fin 4) (0 : Fin 1)]
  rw [show (cfg0.win (3 : Fin 4)).flush (0 : Fin 1) = true from by decide, if_pos rfl]
  exact Memref.write_access_unit_zero_univ (Elt F) main_v1 (off := fun a => win0_3.index (0 : Fin 1) a * main_v1.ty.shape.size a) (funext fun a => by fin_cases a <;> decide) (fun a => by fin_cases a <;> decide) _ _

/-- Each input window's one block is the whole array. -/
theorem xstg_eq (c : Dev nD) : xstg m ρ c = m ((c : Thread nD τ).loc main_arg0) :=
  Memref.read_access_unit_zero (Elt F) main_arg0 (funext fun a => by fin_cases a <;> decide) (fun a => by fin_cases a <;> decide) _
theorem rstg_eq (c : Dev nD) : rstg m ρ c = m ((c : Thread nD τ).loc main_arg1) :=
  Memref.read_access_unit_zero (Elt F) main_arg1 (funext fun a => by fin_cases a <;> decide) (fun a => by fin_cases a <;> decide) _
theorem gstg_eq (c : Dev nD) : gstg m ρ c = m ((c : Thread nD τ).loc main_arg2) :=
  Memref.read_access_unit_zero (Elt F) main_arg2 (funext fun a => by fin_cases a <;> decide) (fun a => by fin_cases a <;> decide) _

/-! ## Indices by coordinates -/

theorem pIdx_eq (r x : Fin 512) : pIdx r x = ix3 0 r x := by
  funext a; fin_cases a <;> rfl
theorem yIdx_eq (r : Fin 32) (x : Fin 512) : yIdx r x = ix2 r x := by
  funext a; fin_cases a <;> rfl

/-- Row `y` of half `s` of the rows that device `c` sums, among the 512. -/
def band (c : Dev nD) (s : Fin 2) (y : Fin 32) : Fin 512 := ⟨64 * c.val + 32 * s.val + y.val, by
  have hc : c.val < 8 := c.isLt; have := s.isLt; have := y.isLt; omega⟩

theorem p_at (c : Dev nD) (s : Fin 2) (y : Fin 32) (x : Fin 512) :
    (pRect c s).emb (ix3 0 y x : S1x32x512.Idx) = (ix3 0 (band c s y) x : S1x512x512.Idx) := by
  funext a; apply Fin.ext
  fin_cases a
  · exact pRect_emb_0 c s _
  · exact pRect_emb_1 c s _
  · exact pRect_emb_2 c s _

theorem o_at (c : Dev nD) (s : Fin 2) (y : Fin 32) (x : Fin 512) :
    (oRect c s).emb (ix2 y x : S32x512.Idx) = (ix2 (band c s y) x : S512x512.Idx) := by
  funext a; apply Fin.ext
  fin_cases a
  · exact oRect_emb_0 c s _
  · exact oRect_emb_1 c s _

/-! ## What the loads read -/

/-- A device's own partial products. -/
theorem ownP_apply (c : Dev nD) (s : Fin 2) (y : Fin 32) (x : Fin 512) :
    ownP m ρ c s (ix3 0 y x) = xstg m ρ c (ix3 0 (band c s y) x) :=
  congrArg (xstg m ρ c) (p_at c s y x)

/-- The residual. -/
theorem ownR_apply (c : Dev nD) (s : Fin 2) (y : Fin 32) (x : Fin 512) :
    ownR m ρ c s (ix2 y x) = rstg m ρ c (ix2 (band c s y) x) :=
  congrArg (rstg m ρ c) (o_at c s y x)

/-- The weights. -/
theorem gam_eq (c : Dev nD) : gam m ρ c = gstg m ρ c :=
  Memref.readAt_unit_zero (Elt F) cc0_stg2_0 (funext fun a => by fin_cases a; rfl) inb_S512_S512_0 _

theorem xstg_at {d d' : Dev nD} {r r' x x' : Fin 512} (hd : d = d') (hr : r = r') (hx : x = x') :
    xstg m ρ d (pIdx r x) = xstg m ρ d' (ix3 0 r' x') := by
  subst hd hr hx; rw [pIdx_eq]

/-- What landed from the `o`-th other device: its partial products of the same rows. -/
theorem rd_apply (c : Dev nD) (s : Fin 2) (o : Fin 7) (y : Fin 32) (x : Fin 512) :
    rd m ρ c s o (ix3 0 y x) = xstg m ρ (peer c o) (ix3 0 (band c s y) x) :=
  xstg_at m ρ (Fin.ext (rRect_emb_0 (peer c o) s (ix3 0 y x)))
    (Fin.ext ((congrArg (64 * c.val + ·) (rRect_emb_1 (peer c o) s (ix3 0 y x))).trans (Nat.add_assoc _ _ _).symm))
    (Fin.ext (rRect_emb_2 (peer c o) s (ix3 0 y x)))

/-- Row `r` of the result is one device's, in one half. -/
theorem outFull_band (c : Dev nD) (s : Fin 2) (y : Fin 32) (x : Fin 512) :
    outFull m ρ (ix2 (band c s y) x) = rows m ρ c s (ix2 y x) := by
  have h := outFull_emb m ρ c s (ix2 y x)
  rwa [o_emb, o_at] at h

/-- Every row is in some device's half. -/
theorem exists_band (r : Fin 512) : ∃ c s y, band c s y = r :=
  ⟨(⟨r.val / 64, by have := r.isLt; show _ < 8; omega⟩ : Dev nD), ⟨r.val % 64 / 32, by omega⟩, ⟨r.val % 32, by omega⟩,
    Fin.ext (by show 64 * (r.val / 64) + 32 * (r.val % 64 / 32) + r.val % 32 = r.val; omega)⟩

end Cert.Exchange
-- ==== Proof.Sums.lean ====
/-
A device's rows at the extended reals: the order in which it adds its eight contributions and the residual does not matter
there, and the rest is one row's normalisation.
-/
module

public import proofs.«01_k».proof.Proof.Result

@[expose] public section

noncomputable section

namespace Cert.Exchange

open Cert.KernelIdeal Cert.KernelIdeal.Gen
open Idealize.ShloMosaic
open Idealize.ShloMosaic.TcCoe

/-! ## A row's normalisation -/

/-- Entry `x` of a row `f`, divided by the root of its mean square (with the kernel's small constant added), and weighted. -/
def normed (f g : Fin 512 → EReal) (x : Fin 512) : EReal :=
  Ideal.div (f x) (Ideal.sqrt (Ideal.div (∑ k, f k * f k) (Ideal.ofBits .f32 0x44000000#32) + Ideal.ofBits .f32 0x358637BD#32)) * g x

theorem half0_tail (y z : FVec Ideal S32x512 .f32) (g : Vec Ideal S512 .f32) (r : Fin 32) (x : Fin 512) :
    k0_pay6 y z g (ix2 r x) = normed (fun k => y (ix2 r k) + z (ix2 r k)) (fun k => g (ix1 k)) x := by
  pointwise [k0_pay6]
  rfl

theorem half1_tail (y : FVec Ideal S32x512 .f32) (g : Vec Ideal S512 .f32) (r : Fin 32) (x : Fin 512) :
    k0_pay11 y g (ix2 r x) = normed (fun k => y (ix2 r k)) (fun k => g (ix1 k)) x := by
  pointwise [k0_pay11]
  rfl

/-! ## The sum of the eight contributions -/

/-- A sum over the devices is device `c`'s term and those of the seven others. -/
theorem sum_devices (c : Dev nD) (f : Dev nD → EReal) : ∑ d, f d = f c + ∑ o, f (peer c o) := by
  have h : (Finset.univ : Finset (Dev nD)) = insert c (Finset.univ.image (peer c)) := by revert c; decide
  rw [h, Finset.sum_insert (by
      intro hc
      obtain ⟨o, -, ho⟩ := Finset.mem_image.mp hc
      exact peer_ne c o ho),
    Finset.sum_image (fun o _ o' _ he => peer_injective c he)]

variable (m : (ℓ : Loc nD τ sig) → Buf (Elt Ideal) ℓ) (ρ : Dev nD → PrngReg)

/-- Device `d`'s partial product, and its residual, at row `r` and column `x`. -/
def partAt (d : Dev nD) (r x : Fin 512) : EReal := xstg m ρ d (ix3 0 r x)
def residAt (d : Dev nD) (r x : Fin 512) : EReal := rstg m ρ d (ix2 r x)

/-- All devices' partial products and device `c`'s residual, added. -/
def summed (c : Dev nD) (r x : Fin 512) : EReal := (∑ d, partAt m ρ d r x) + residAt m ρ c r x

theorem ownP_part (c : Dev nD) (s : Fin 2) (y : Fin 32) (x : Fin 512) : ownP m ρ c s (ix3 0 y x) = partAt m ρ c (band c s y) x :=
  ownP_apply m ρ c s y x
theorem ownR_resid (c : Dev nD) (s : Fin 2) (y : Fin 32) (x : Fin 512) : ownR m ρ c s (ix2 y x) = residAt m ρ c (band c s y) x :=
  ownR_apply m ρ c s y x
theorem rd_part (c : Dev nD) (s : Fin 2) (o : Fin 7) (y : Fin 32) (x : Fin 512) :
    rd m ρ c s o (ix3 0 y x) = partAt m ρ (peer c o) (band c s y) x :=
  rd_apply m ρ c s o y x

/-- The order in which a device adds: its own contribution, the residual, then the others one by one. -/
theorem summed_eq (c : Dev nD) (r x : Fin 512) :
    partAt m ρ c r x + residAt m ρ c r x + partAt m ρ (peer c 0) r x + partAt m ρ (peer c 1) r x + partAt m ρ (peer c 2) r x
      + partAt m ρ (peer c 3) r x + partAt m ρ (peer c 4) r x + partAt m ρ (peer c 5) r x + partAt m ρ (peer c 6) r x = summed m ρ c r x := by
  rw [summed, sum_devices c, Fin.sum_univ_seven]
  ac_rfl

theorem half0_sum (c : Dev nD) (y : Fin 32) (x : Fin 512) :
    k0_pay4 (acc₀ m ρ c) (rd m ρ c 0 4) (rd m ρ c 0 5) (ix2 y x) + k0_pay5 (rd m ρ c 0 6) (ix2 y x) = summed m ρ c (band c 0 y) x := by
  unfold acc₀
  pointwise [k0_pay1, k0_pay2, k0_pay3, k0_pay4, k0_pay5]
  simp only [ownP_part, ownR_resid, rd_part]
  exact summed_eq m ρ c _ x

theorem half1_sum (c : Dev nD) (y : Fin 32) (x : Fin 512) :
    k0_pay10 (acc₁ m ρ c) (rd m ρ c 1 4) (rd m ρ c 1 5) (rd m ρ c 1 6) (ix2 y x) = summed m ρ c (band c 1 y) x := by
  unfold acc₁
  pointwise [k0_pay7, k0_pay8, k0_pay9, k0_pay10]
  simp only [ownP_part, ownR_resid, rd_part]
  exact summed_eq m ρ c _ x

/-- The row that device `c` computes in half `s`. -/
theorem rows_apply (c : Dev nD) (s : Fin 2) (y : Fin 32) (x : Fin 512) :
    rows m ρ c s (ix2 y x) = normed (summed m ρ c (band c s y)) (fun k => gam m ρ c (ix1 k)) x := by
  fin_cases s
  · exact (half0_tail _ _ _ y x).trans (congrArg (fun f => normed f _ x) (funext fun k => half0_sum m ρ c y k))
  · exact (half1_tail _ _ y x).trans (congrArg (fun f => normed f _ x) (funext fun k => half1_sum m ρ c y k))

end Cert.Exchange
-- ==== Proof.Equation.lean ====
/-
The value claim's equation at the extended reals: what the reference computes of the whole arrays is what every device's result
holds, when each device started with its slab of the partial products and with the same residual and weights.
-/
module

public import proofs.«01_k».proof.Proof.Sums
public import proofs.«01_k».proof.Proof.Gen.ReferenceIdeal

@[expose] public section

noncomputable section

namespace Cert.Exchange

open Idealize.ShloMosaic
open Idealize.ShloMosaic.TcCoe

section Reference

open Cert.ReferenceIdeal Cert.ReferenceIdeal.Gen

/-- The reference's sum of the eight slabs and the residual. -/
def refSum (X : FVec Ideal S8x512x512 .f32) (R : FVec Ideal S512x512 .f32) : FVec Ideal S512x512 .f32 :=
  addf (Host.reduceAdd X (constant S_ .f32 0x00000000#32) reducesTo_S8x512x512_S512x512_d0 h_S_) R

/-- The reference's result: each row of that sum normalised and weighted. -/
def refValue (X : FVec Ideal S8x512x512 .f32) (R : FVec Ideal S512x512 .f32) (G : FVec Ideal S512 .f32) : FVec Ideal S512x512 .f32 :=
  mulf
    (Host.divf (refSum X R)
      (broadcastInDim S512x512 ![0, 1] bcast_S512x1_S512x512_0_1
        (Host.sqrt (addf
          (Host.divf
            (broadcastInDim S512x1 ![0] bcast_S512_S512x1_0
              (Host.reduceAdd (mulf (refSum X R) (refSum X R)) (constant S_ .f32 0x00000000#32) reducesTo_S512x512_S512_d1 h_S_))
            (broadcastInDim S512x1 ![] bcast_S_S512x1 (constant S_ .f32 0x44000000#32)))
          (broadcastInDim S512x1 ![] bcast_S_S512x1 (constant S_ .f32 0x358637BD#32))))))
    (broadcastInDim S512x512 ![0, 1] bcast_S1x512_S512x512_0_1 (broadcastInDim S1x512 ![1] bcast_S512_S1x512_1 G))

theorem refValue_apply (X : FVec Ideal S8x512x512 .f32) (R : FVec Ideal S512x512 .f32) (G : FVec Ideal S512 .f32) (r x : Fin 512) :
    refValue X R G (ix2 r x) = normed (fun k => (∑ d, X (ix3 d r k)) + R (ix2 r k)) (fun k => G (ix1 k)) x := by
  pointwise [refValue, refSum]
  rfl

end Reference

section Kernel

open Cert.KernelIdeal Cert.KernelIdeal.Gen

variable (m : (ℓ : Loc nD τ sig) → Buf (Elt Ideal) ℓ) (ρ : Dev nD → PrngReg)

/-- Slab `d` of the whole partial products, at an entry. -/
theorem slab_apply (X : (⟨3, ![8, 512, 512]⟩ : Shape).Idx → EReal) (d : Fin 8) (r x : Fin 512) :
    Layout.block ⟨3, ![1, 512, 512]⟩ ⟨3, ![8, 512, 512]⟩ 0 8 d X (by decide) (ix3 0 r x) = X (ix3 d r x) := by
  rw [Layout.block_apply]
  congr 1
  funext a; apply Fin.ext
  rw [Layout.Tiles.idx_val]
  fin_cases a
  · exact Nat.mul_one _
  · rfl
  · rfl

/-- Every device's result is the reference's. -/
theorem outFull_eq (X : (⟨3, ![8, 512, 512]⟩ : Shape).Idx → EReal) (R : (⟨2, ![512, 512]⟩ : Shape).Idx → EReal)
    (G : (⟨1, ![512]⟩ : Shape).Idx → EReal)
    (hX : ∀ c : Dev nD, m ((c : Thread nD τ).loc main_arg0) = Layout.block ⟨3, ![1, 512, 512]⟩ ⟨3, ![8, 512, 512]⟩ 0 8 c X (by decide))
    (hR : ∀ c : Dev nD, m ((c : Thread nD τ).loc main_arg1) = R) (hG : ∀ c : Dev nD, m ((c : Thread nD τ).loc main_arg2) = G) :
    outFull m ρ = refValue X R G := by
  funext i
  obtain ⟨r, x, rfl⟩ : ∃ r x : Fin 512, i = (ix2 r x : S512x512.Idx) := ⟨i 0, i 1, eq_ix2 i⟩
  obtain ⟨c, s, y, rfl⟩ := exists_band r
  refine (outFull_band m ρ c s y x).trans ((rows_apply m ρ c s y x).trans (Eq.trans ?_ (refValue_apply X R G _ x).symm))
  have hp : ∀ d k, partAt m ρ d (band c s y) k = X (ix3 d (band c s y) k) := fun d k =>
    (congrFun ((xstg_eq m ρ d).trans (hX d)) _).trans (slab_apply X d _ k)
  have hr : ∀ k, residAt m ρ c (band c s y) k = R (ix2 (band c s y) k) := fun k =>
    congrFun ((rstg_eq m ρ c).trans (hR c)) _
  have hg : (fun k => gam m ρ c (ix1 k)) = fun k => G (ix1 k) := funext fun k =>
    congrFun ((gam_eq m ρ c).trans ((gstg_eq m ρ c).trans (hG c))) _
  have hs : summed m ρ c (band c s y) = fun k => (∑ d, X (ix3 d (band c s y) k)) + R (ix2 (band c s y) k) := funext fun k => by
    rw [summed, hr]
    exact congrArg (· + _) (Finset.sum_congr rfl fun d _ => hp d k)
  rw [hs, hg]

end Kernel

end Cert.Exchange
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

/-- From any float values' run: the arguments end as they were, and every semaphore is at zero. -/
theorem kept {F : FTy → Type} [FloatOps F] (m : (ℓ : Loc Cert.KernelIdeal.nD Cert.KernelIdeal.τ Cert.KernelIdeal.sig) → Buf (Elt F) ℓ)
    (ρ : Dev Cert.KernelIdeal.nD → PrngReg) {r : PUnit × MemSt Cert.KernelIdeal.nD Cert.KernelIdeal.τ Cert.KernelIdeal.sig (Elt F)}
    (h : Cert.Exchange.Done m ρ r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2) :=
  ⟨(h c (0 : Fin 4)).trans (Cert.Exchange.final_in m ρ c (0 : Fin 4) (by decide)), (h c (1 : Fin 4)).trans (Cert.Exchange.final_in m ρ c (1 : Fin 4) (by decide)),
    (h c (2 : Fin 4)).trans (Cert.Exchange.final_in m ρ c (2 : Fin 4) (by decide))⟩

/-- The kernel's text is its idealization's. -/
theorem bodies_same : (Cert.Kernel.defs₀ (F := Bits)) = (Cert.KernelIdeal.defs₀ (F := Bits)) := by
  unfold Cert.Kernel.defs₀ Cert.KernelIdeal.defs₀
  refine congrArg Defs.onTc (funext fun l => funext fun x => ?_)
  match l, x with
  | ⟨0, _⟩, (t, s) => rfl
theorem defs_same : (Cert.Kernel.defs (F := Bits)) = (Cert.KernelIdeal.defs (F := Bits)) := congrArg (Pipeline.defs _) bodies_same

/-- The kernel ends with its arguments unchanged and every semaphore at zero; -/
theorem frame_kernel : Cert.quiescent_Kernel := fun m ρ _ => by
  have h := (θ_run Cert.KernelIdeal.defs _ _).mono (fun _ h => And.intro (kept m ρ h.1) h.2) (Cert.Exchange.run_main (F := Bits) m ρ)
  rw [← defs_same] at h
  exact h

/-- its idealization likewise; -/
theorem frame_ideal : Cert.quiescent_KernelIdeal := fun m ρ _ =>
  (θ_run Cert.KernelIdeal.defs _ _).mono (fun _ h => ⟨kept m ρ h.1, h.2⟩) (Cert.Exchange.run_main (F := Ideal) m ρ)

/-- and the reference, which has no semaphores. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- Every device ends holding the reference's result. -/
theorem algebraic : Cert.algebraic_KernelIdeal_ReferenceIdeal := fun m ρ m' ρ' _ h =>
  ⟨_, (θ_run Cert.KernelIdeal.defs _ _).mono
      (fun _ hr c => ⟨(hr.1 c (3 : Fin 4)).trans ((Cert.Exchange.final_out m ρ c).trans
        (Cert.Exchange.outFull_eq m ρ _ _ _ (fun c => (h c).1) (fun c => (h c).2.1) (fun c => (h c).2.2))), kept m ρ hr.1 c⟩)
      (Cert.Exchange.run_main (F := Ideal) m ρ),
    (θ_run Cert.ReferenceIdeal.defs _ _).mono (fun _ hr => hr 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, algebraic⟩

end Cert.Proof

end
